-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v91) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x2048 : Shape := ⟨3, ![128, 1, 2048]⟩
abbrev S128x1x2x128 : Shape := ⟨4, ![128, 1, 2, 128]⟩
abbrev S128x16384x2x128 : Shape := ⟨4, ![128, 16384, 2, 128]⟩
abbrev S128x16384x2 : Shape := ⟨3, ![128, 16384, 2]⟩
abbrev S128x2x8x128 : Shape := ⟨4, ![128, 2, 8, 128]⟩
abbrev S128x2x128 : Shape := ⟨3, ![128, 2, 128]⟩
abbrev S128x2x16384x128 : Shape := ⟨4, ![128, 2, 16384, 128]⟩
abbrev S128x2x16384 : Shape := ⟨3, ![128, 2, 16384]⟩
abbrev S128x2x1 : Shape := ⟨3, ![128, 2, 1]⟩
abbrev S1x2x8x128 : Shape := ⟨4, ![1, 2, 8, 128]⟩
abbrev S1x2x128 : Shape := ⟨3, ![1, 2, 128]⟩
abbrev S1x2x2048x128 : Shape := ⟨4, ![1, 2, 2048, 128]⟩
abbrev S1x2x2048 : Shape := ⟨3, ![1, 2, 2048]⟩
abbrev S1x2x1 : Shape := ⟨3, ![1, 2, 1]⟩
abbrev S2x8x1 : Shape := ⟨3, ![2, 8, 1]⟩
abbrev S2x8x128 : Shape := ⟨3, ![2, 8, 128]⟩
abbrev S1x1x8x128 : Shape := ⟨4, ![1, 1, 8, 128]⟩
abbrev S8x128 : Shape := ⟨2, ![8, 128]⟩
abbrev S1x1x2048 : Shape := ⟨3, ![1, 1, 2048]⟩
abbrev S1x2048 : Shape := ⟨2, ![1, 2048]⟩
abbrev S2048x1 : Shape := ⟨2, ![2048, 1]⟩
abbrev S1x1x2048x128 : Shape := ⟨4, ![1, 1, 2048, 128]⟩
abbrev S2048x128 : Shape := ⟨2, ![2048, 128]⟩
abbrev S8x2048 : Shape := ⟨2, ![8, 2048]⟩
abbrev S1x8x1 : Shape := ⟨3, ![1, 8, 1]⟩
abbrev S8x1 : Shape := ⟨2, ![8, 1]⟩
abbrev S8 : Shape := ⟨1, ![8]⟩
abbrev S1x8x128 : Shape := ⟨3, ![1, 8, 128]⟩
abbrev S2x128 : Shape := ⟨2, ![2, 128]⟩
abbrev S2 : Shape := ⟨1, ![2]⟩
abbrev S2x1 : Shape := ⟨2, ![2, 1]⟩
abbrev S1x128 : Shape := ⟨2, ![1, 128]⟩

abbrev nBuf : Space → Nat
  | .hbm => 19
  | .vmem => 27
  | .smem => 0
  | _ => 0

abbrev bufTy : (tb : Table) → Fin (tcTables nBuf tb) → BufTy
  | .hbm, ⟨0, _⟩ => ⟨S128x1x2048, .bf16⟩
  | .hbm, ⟨1, _⟩ => ⟨S128x1x2x128, .bf16⟩
  | .hbm, ⟨2, _⟩ => ⟨S128x1x2x128, .bf16⟩
  | .hbm, ⟨3, _⟩ => ⟨S128x16384x2x128, .i8⟩
  | .hbm, ⟨4, _⟩ => ⟨S128x16384x2, .f32⟩
  | .hbm, ⟨5, _⟩ => ⟨S128x16384x2x128, .i8⟩
  | .hbm, ⟨6, _⟩ => ⟨S128x16384x2, .f32⟩
  | .hbm, ⟨7, _⟩ => ⟨S128x2x8x128, .bf16⟩
  | .hbm, ⟨8, _⟩ => ⟨S128x2x128, .bf16⟩
  | .hbm, ⟨9, _⟩ => ⟨S128x2x128, .bf16⟩
  | .hbm, ⟨10, _⟩ => ⟨S128x2x16384x128, .i8⟩
  | .hbm, ⟨11, _⟩ => ⟨S128x2x16384x128, .i8⟩
  | .hbm, ⟨12, _⟩ => ⟨S128x2x16384, .f32⟩
  | .hbm, ⟨13, _⟩ => ⟨S128x2x16384, .f32⟩
  | .hbm, ⟨14, _⟩ => ⟨S128x2x8x128, .bf16⟩
  | .hbm, ⟨15, _⟩ => ⟨S128x2x128, .i8⟩
  | .hbm, ⟨16, _⟩ => ⟨S128x2x1, .f32⟩
  | .hbm, ⟨17, _⟩ => ⟨S128x2x128, .i8⟩
  | .hbm, ⟨18, _⟩ => ⟨S128x2x1, .f32⟩
  | .local _ .vmem, ⟨0, _⟩ => ⟨S1x2x8x128, .bf16⟩
  | .local _ .vmem, ⟨1, _⟩ => ⟨S1x2x8x128, .bf16⟩
  | .local _ .vmem, ⟨2, _⟩ => ⟨S1x2x128, .bf16⟩
  | .local _ .vmem, ⟨3, _⟩ => ⟨S1x2x128, .bf16⟩
  | .local _ .vmem, ⟨4, _⟩ => ⟨S1x2x128, .bf16⟩
  | .local _ .vmem, ⟨5, _⟩ => ⟨S1x2x128, .bf16⟩
  | .local _ .vmem, ⟨6, _⟩ => ⟨S1x2x2048x128, .i8⟩
  | .local _ .vmem, ⟨7, _⟩ => ⟨S1x2x2048x128, .i8⟩
  | .local _ .vmem, ⟨8, _⟩ => ⟨S1x2x2048, .f32⟩
  | .local _ .vmem, ⟨9, _⟩ => ⟨S1x2x2048, .f32⟩
  | .local _ .vmem, ⟨10, _⟩ => ⟨S1x2x2048x128, .i8⟩
  | .local _ .vmem, ⟨11, _⟩ => ⟨S1x2x2048x128, .i8⟩
  | .local _ .vmem, ⟨12, _⟩ => ⟨S1x2x2048, .f32⟩
  | .local _ .vmem, ⟨13, _⟩ => ⟨S1x2x2048, .f32⟩
  | .local _ .vmem, ⟨14, _⟩ => ⟨S1x2x8x128, .bf16⟩
  | .local _ .vmem, ⟨15, _⟩ => ⟨S1x2x8x128, .bf16⟩
  | .local _ .vmem, ⟨16, _⟩ => ⟨S1x2x128, .i8⟩
  | .local _ .vmem, ⟨17, _⟩ => ⟨S1x2x128, .i8⟩
  | .local _ .vmem, ⟨18, _⟩ => ⟨S1x2x1, .f32⟩
  | .local _ .vmem, ⟨19, _⟩ => ⟨S1x2x1, .f32⟩
  | .local _ .vmem, ⟨20, _⟩ => ⟨S1x2x128, .i8⟩
  | .local _ .vmem, ⟨21, _⟩ => ⟨S1x2x128, .i8⟩
  | .local _ .vmem, ⟨22, _⟩ => ⟨S1x2x1, .f32⟩
  | .local _ .vmem, ⟨23, _⟩ => ⟨S1x2x1, .f32⟩
  | .local _ .vmem, ⟨24, _⟩ => ⟨S2x8x1, .f32⟩
  | .local _ .vmem, ⟨25, _⟩ => ⟨S2x8x1, .f32⟩
  | .local _ .vmem, ⟨26, _⟩ => ⟨S2x8x128, .f32⟩
  | _, _ => ⟨S128x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![128, 8], ![false, false]⟩

def k0_cond2 (i : grid0.Coords) : BitVec 1 :=
  let arg1 : BitVec 32 := BitVec.ofNat 32 (i 1).val
  let c7_i32 : BitVec 32 := 7#32
  let v113 : BitVec 1 := Scalar.cmpi .eq arg1 c7_i32
  let v114 : BitVec 32 := Scalar.extui v113
  let c0_i32_80 : BitVec 32 := 0#32
  let v115 : BitVec 1 := Scalar.cmpi .ne v114 c0_i32_80
  v115

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x2048x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x2048x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S128x1x2048 : Shape := ⟨3, ![128, 1, 2048]⟩
abbrev S128x1x2x128 : Shape := ⟨4, ![128, 1, 2, 128]⟩
abbrev S128x16384x2x128 : Shape := ⟨4, ![128, 16384, 2, 128]⟩
abbrev S128x16384x2 : Shape := ⟨3, ![128, 16384, 2]⟩
abbrev S128x2x8x128 : Shape := ⟨4, ![128, 2, 8, 128]⟩
abbrev S128x2x128 : Shape := ⟨3, ![128, 2, 128]⟩
abbrev S_ : Shape := ⟨0, ![]⟩
abbrev S128x2 : Shape := ⟨2, ![128, 2]⟩
abbrev S128x2x1 : Shape := ⟨3, ![128, 2, 1]⟩
abbrev S128x16384x2x1 : Shape := ⟨4, ![128, 16384, 2, 1]⟩
abbrev S128x2x8x16384 : Shape := ⟨4, ![128, 2, 8, 16384]⟩
abbrev S128x2x8 : Shape := ⟨3, ![128, 2, 8]⟩
abbrev S128x2x8x1 : Shape := ⟨4, ![128, 2, 8, 1]⟩
abbrev S128x2x1x128 : Shape := ⟨4, ![128, 2, 1, 128]⟩

abbrev nBuf : Space → Nat
  | .hbm => 129
  | .vmem => 0
  | .smem => 0
  | _ => 0

abbrev hbmTy0_0 (i : Nat) : BufTy := match i % 128 with
  | 0 => ⟨S128x1x2048, .bf16⟩
  | 1 => ⟨S128x1x2x128, .bf16⟩
  | 2 => ⟨S128x1x2x128, .bf16⟩
  | 3 => ⟨S128x16384x2x128, .i8⟩
  | 4 => ⟨S128x16384x2, .f32⟩
  | 5 => ⟨S128x16384x2x128, .i8⟩
  | 6 => ⟨S128x16384x2, .f32⟩
  | 7 => ⟨S128x2x8x128, .bf16⟩
  | 8 => ⟨S128x2x128, .bf16⟩
  | 9 => ⟨S128x2x128, .f32⟩
  | 10 => ⟨S128x2x128, .f32⟩
  | 11 => ⟨S_, .f32⟩
  | 12 => ⟨S128x2, .f32⟩
  | 13 => ⟨S_, .f32⟩
  | 14 => ⟨S128x2, .f32⟩
  | 15 => ⟨S128x2, .i1⟩
  | 16 => ⟨S_, .f32⟩
  | 17 => ⟨S128x2, .f32⟩
  | 18 => ⟨S128x2, .f32⟩
  | 19 => ⟨S_, .f32⟩
  | 20 => ⟨S_, .f32⟩
  | 21 => ⟨S128x2, .f32⟩
  | 22 => ⟨S128x2, .f32⟩
  | 23 => ⟨S128x2x1, .f32⟩
  | 24 => ⟨S128x2x128, .f32⟩
  | 25 => ⟨S128x2x128, .f32⟩
  | 26 => ⟨S128x2x128, .f32⟩
  | 27 => ⟨S_, .f32⟩
  | 28 => ⟨S_, .f32⟩
  | 29 => ⟨S_, .f32⟩
  | 30 => ⟨S128x2x128, .f32⟩
  | 31 => ⟨S128x2x128, .f32⟩
  | 32 => ⟨S_, .f32⟩
  | 33 => ⟨S128x2x128, .f32⟩
  | 34 => ⟨S128x2x128, .f32⟩
  | 35 => ⟨S128x2x128, .i32⟩
  | 36 => ⟨S128x2x128, .i8⟩
  | 37 => ⟨S128x2x128, .bf16⟩
  | 38 => ⟨S128x2x128, .f32⟩
  | 39 => ⟨S128x2x128, .f32⟩
  | 40 => ⟨S_, .f32⟩
  | 41 => ⟨S128x2, .f32⟩
  | 42 => ⟨S_, .f32⟩
  | 43 => ⟨S128x2, .f32⟩
  | 44 => ⟨S128x2, .i1⟩
  | 45 => ⟨S_, .f32⟩
  | 46 => ⟨S128x2, .f32⟩
  | 47 => ⟨S128x2, .f32⟩
  | 48 => ⟨S_, .f32⟩
  | 49 => ⟨S_, .f32⟩
  | 50 => ⟨S128x2, .f32⟩
  | 51 => ⟨S128x2, .f32⟩
  | 52 => ⟨S128x2x1, .f32⟩
  | 53 => ⟨S128x2x128, .f32⟩
  | 54 => ⟨S128x2x128, .f32⟩
  | 55 => ⟨S128x2x128, .f32⟩
  | 56 => ⟨S_, .f32⟩
  | 57 => ⟨S_, .f32⟩
  | 58 => ⟨S_, .f32⟩
  | 59 => ⟨S128x2x128, .f32⟩
  | 60 => ⟨S128x2x128, .f32⟩
  | 61 => ⟨S_, .f32⟩
  | 62 => ⟨S128x2x128, .f32⟩
  | 63 => ⟨S128x2x128, .f32⟩
  | 64 => ⟨S128x2x128, .i32⟩
  | 65 => ⟨S128x2x128, .i8⟩
  | 66 => ⟨S128x16384x2x128, .i32⟩
  | 67 => ⟨S128x16384x2x128, .f32⟩
  | 68 => ⟨S128x16384x2x128, .bf16⟩
  | 69 => ⟨S128x16384x2, .bf16⟩
  | 70 => ⟨S128x16384x2x1, .bf16⟩
  | 71 => ⟨S128x16384x2x128, .bf16⟩
  | 72 => ⟨S128x16384x2x128, .bf16⟩
  | 73 => ⟨S128x16384x2x128, .i32⟩
  | 74 => ⟨S128x16384x2x128, .f32⟩
  | 75 => ⟨S128x16384x2x128, .bf16⟩
  | 76 => ⟨S128x16384x2, .bf16⟩
  | 77 => ⟨S128x16384x2x1, .bf16⟩
  | 78 => ⟨S128x16384x2x128, .bf16⟩
  | 79 => ⟨S128x16384x2x128, .bf16⟩
  | 80 => ⟨S128x2x128, .i32⟩
  | 81 => ⟨S128x2x128, .f32⟩
  | 82 => ⟨S128x2x128, .bf16⟩
  | 83 => ⟨S128x2, .bf16⟩
  | 84 => ⟨S128x2x1, .bf16⟩
  | 85 => ⟨S128x2x128, .bf16⟩
  | 86 => ⟨S128x2x128, .bf16⟩
  | 87 => ⟨S128x2x128, .i32⟩
  | 88 => ⟨S128x2x128, .f32⟩
  | 89 => ⟨S128x2x128, .bf16⟩
  | 90 => ⟨S128x2, .bf16⟩
  | 91 => ⟨S128x2x1, .bf16⟩
  | 92 => ⟨S128x2x128, .bf16⟩
  | 93 => ⟨S128x2x128, .bf16⟩
  | 94 => ⟨S128x2x8x16384, .f32⟩
  | 95 => ⟨S_, .f32⟩
  | 96 => ⟨S128x2x8x16384, .f32⟩
  | 97 => ⟨S128x2x8x16384, .f32⟩
  | 98 => ⟨S128x2x8, .f32⟩
  | 99 => ⟨S_, .f32⟩
  | 100 => ⟨S128x2x8, .f32⟩
  | 101 => ⟨S128x2x8, .f32⟩
  | 102 => ⟨S_, .f32⟩
  | 103 => ⟨S128x2x8, .f32⟩
  | 104 => ⟨S128x2x8, .f32⟩
  | 105 => ⟨S128x2x8x1, .f32⟩
  | 106 => ⟨S128x2x8x16384, .f32⟩
  | 107 => ⟨S128x2x8x16384, .f32⟩
  | 108 => ⟨S128x2x8x16384, .f32⟩
  | 109 => ⟨S128x2x8, .f32⟩
  | 110 => ⟨S128x2x8, .f32⟩
  | 111 => ⟨S_, .f32⟩
  | 112 => ⟨S128x2x8, .f32⟩
  | 113 => ⟨S128x2x8, .f32⟩
  | 114 => ⟨S128x16384x2x128, .f32⟩
  | 115 => ⟨S128x2x8x128, .f32⟩
  | 116 => ⟨S128x2x8x1, .f32⟩
  | 117 => ⟨S128x2x128, .f32⟩
  | 118 => ⟨S128x2x1x128, .f32⟩
  | 119 => ⟨S128x2x8x128, .f32⟩
  | 120 => ⟨S128x2x8x128, .f32⟩
  | 121 => ⟨S128x2x8x128, .f32⟩
  | 122 => ⟨S128x2x8x128, .f32⟩
  | 123 => ⟨S128x2x8x1, .f32⟩
  | 124 => ⟨S128x2x8x128, .f32⟩
  | 125 => ⟨S128x2x8x128, .f32⟩
  | 126 => ⟨S128x2x8x128, .bf16⟩
  | 127 => ⟨S128x2x1, .f32⟩
  | _ => ⟨S128x1x2048, .bf16⟩

abbrev hbmTy0_1 (i : Nat) : BufTy := match i % 128 with
  | 0 => ⟨S128x2x1, .f32⟩
  | _ => ⟨S128x1x2048, .bf16⟩

abbrev hbmTy (i : Nat) : BufTy := match i / 128 with
  | 0 => hbmTy0_0 i
  | 1 => hbmTy0_1 i
  | _ => ⟨S128x1x2048, .bf16⟩

abbrev bufTy : (tb : Table) → Fin (tcTables nBuf tb) → BufTy
  | .hbm, ⟨i, _⟩ => hbmTy i
  | _, _ => ⟨S128x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_cst_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_cst_8 : Ref sig .tc := ⟨.hbm, 48, rfl⟩
abbrev main_call3_v0 : Ref sig .tc := ⟨.hbm, 49, rfl⟩
abbrev main_call3_v1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_9 : Ref sig .tc := ⟨.hbm, 56, rfl⟩
abbrev main_cst_10 : Ref sig .tc := ⟨.hbm, 57, rfl⟩
abbrev main_call5_v0 : Ref sig .tc := ⟨.hbm, 58, rfl⟩
abbrev main_call5_v1 : Ref sig .tc := ⟨.hbm, 59, rfl⟩
abbrev main_call5_v2 : Ref sig .tc := ⟨.hbm, 60, rfl⟩
abbrev main_call5_v3 : Ref sig .tc := ⟨.hbm, 61, rfl⟩
abbrev main_call5_v4 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]
-- ==== Proof.Softmax.lean ====
/- The running softmax over extended reals: the largest score so far, the sum of the exponentials taken against it, and
   the weighted sum, advanced a block of tokens at a time, are those of the whole prefix taken at once. -/
module

public import Idealize.ShloMosaic.PureOps.Ideal

@[expose] public section

noncomputable section

namespace Cert.Softmax

open Idealize.ShloMosaic

/-- An exponential is never negative. -/
theorem exp_nonneg (x : EReal) : 0 ≤ Ideal.exp x := by
  induction x using EReal.rec with
  | bot => simp
  | top => simp
  | coe r => simpa using EReal.coe_nonneg.2 (Real.exp_pos r).le

/-- The exponential of a difference `a - b` with `a ≤ b` is finite. -/
theorem exp_sub_ne_top {a b : EReal} (h : a ≤ b) : Ideal.exp (a - b) ≠ ⊤ := by
  induction a using EReal.rec with
  | bot => simp
  | top =>
    rw [top_le_iff] at h
    subst h
    rw [EReal.sub_top]
    simp
  | coe r =>
    induction b using EReal.rec with
    | bot => simp at h
    | top => simp
    | coe q =>
      rw [← EReal.coe_sub, Ideal.exp_coe]
      exact EReal.coe_ne_top _

/-- Rescaling from the maximum `μ` to a larger one `μ'`: whatever the scores, infinite ones included. -/
theorem exp_sub_mul {s μ μ' : EReal} (h : s ≤ μ) (h' : μ ≤ μ') :
    Ideal.exp (μ - μ') * Ideal.exp (s - μ) = Ideal.exp (s - μ') := by
  induction s using EReal.rec with
  | bot => simp
  | top =>
    rw [top_le_iff] at h
    subst h
    rw [top_le_iff] at h'
    subst h'
    rw [EReal.sub_top]
    simp
  | coe r =>
    induction μ using EReal.rec with
    | bot => simp at h
    | top =>
      rw [top_le_iff] at h'
      subst h'
      simp
    | coe q =>
      induction μ' using EReal.rec with
      | bot => simp at h'
      | top => simp
      | coe p =>
        rw [← EReal.coe_sub, ← EReal.coe_sub, ← EReal.coe_sub, Ideal.exp_coe, Ideal.exp_coe, Ideal.exp_coe,
          ← EReal.coe_mul, ← Real.exp_add]
        congr 2
        ring

/-- A finite nonnegative factor goes into a sum, whatever the summands. -/
theorem mul_sum {ι : Type*} (T : Finset ι) (f : ι → EReal) {a : EReal} (h0 : 0 ≤ a) (ht : a ≠ ⊤) :
    a * ∑ t ∈ T, f t = ∑ t ∈ T, a * f t := by
  classical
  induction T using Finset.induction_on with
  | empty => simp
  | insert t T ht' ih =>
    rw [Finset.sum_insert ht', Finset.sum_insert ht', EReal.left_distrib_of_nonneg_of_ne_top h0 ht, ih]

/-- The largest of the first `n` scores (`⊥` of none). -/
def top (s : ℕ → EReal) (n : ℕ) : EReal := (Finset.range n).sup s
/-- The sum of the first `n` exponentials, taken against `μ`. -/
def tot (s : ℕ → EReal) (n : ℕ) (μ : EReal) : EReal := ∑ t ∈ Finset.range n, Ideal.exp (s t - μ)
/-- The sum of the first `n` values, weighted by the exponentials taken against `μ`. -/
def wgt (s v : ℕ → EReal) (n : ℕ) (μ : EReal) : EReal := ∑ t ∈ Finset.range n, Ideal.exp (s t - μ) * v t

@[simp] theorem top_zero (s : ℕ → EReal) : top s 0 = ⊥ := by simp [top]
@[simp] theorem tot_zero (s : ℕ → EReal) (μ : EReal) : tot s 0 μ = 0 := by simp [tot]
@[simp] theorem wgt_zero (s v : ℕ → EReal) (μ : EReal) : wgt s v 0 μ = 0 := by simp [wgt]

/-- Every one of the first `n` scores is at most the largest of them. -/
theorem le_top (s : ℕ → EReal) {n t : ℕ} (h : t ∈ Finset.range n) : s t ≤ top s n := Finset.le_sup h

/-- Rescaling the sum of exponentials from the prefix's own maximum to a larger `μ`. -/
theorem rescale_tot (s : ℕ → EReal) (n : ℕ) {μ : EReal} (h : top s n ≤ μ) :
    Ideal.exp (top s n - μ) * tot s n (top s n) = tot s n μ := by
  rw [tot, mul_sum _ _ (exp_nonneg _) (exp_sub_ne_top h), tot]
  exact Finset.sum_congr rfl fun t ht => exp_sub_mul (le_top s ht) h

/-- Rescaling the weighted sum from the prefix's own maximum to a larger `μ`. -/
theorem rescale_wgt (s v : ℕ → EReal) (n : ℕ) {μ : EReal} (h : top s n ≤ μ) :
    Ideal.exp (top s n - μ) * wgt s v n (top s n) = wgt s v n μ := by
  rw [wgt, mul_sum _ _ (exp_nonneg _) (exp_sub_ne_top h), wgt]
  refine Finset.sum_congr rfl fun t ht => ?_
  rw [← mul_assoc, exp_sub_mul (le_top s ht) h]

/-- The maximum of `n` scores, and then of `k` more. -/
theorem top_add (s : ℕ → EReal) (n k : ℕ) :
    top s (n + k) = max (top s n) ((Finset.univ : Finset (Fin k)).sup fun r => s (n + r)) := by
  refine le_antisymm (Finset.sup_le fun t ht => ?_) (max_le ?_ ?_)
  · rw [Finset.mem_range] at ht
    by_cases h : t < n
    · exact le_max_of_le_left (le_top s (Finset.mem_range.2 h))
    · refine le_max_of_le_right ?_
      have e : s t = s (n + (⟨t - n, by omega⟩ : Fin k)) := by congr 1; simp only; omega
      rw [e]
      exact Finset.le_sup (f := fun r : Fin k => s (n + r)) (Finset.mem_univ _)
  · exact Finset.sup_mono (Finset.range_mono (Nat.le_add_right n k))
  · refine Finset.sup_le fun r _ => le_top s (Finset.mem_range.2 ?_)
    have := r.isLt
    omega

/-- The sum of `n` exponentials, and then of `k` more. -/
theorem tot_add (s : ℕ → EReal) (n k : ℕ) (μ : EReal) :
    tot s (n + k) μ = tot s n μ + ∑ r : Fin k, Ideal.exp (s (n + r) - μ) := by
  rw [tot, Finset.sum_range_add, ← tot, Finset.sum_range]

/-- The weighted sum of `n` values, and then of `k` more. -/
theorem wgt_add (s v : ℕ → EReal) (n k : ℕ) (μ : EReal) :
    wgt s v (n + k) μ = wgt s v n μ + ∑ r : Fin k, Ideal.exp (s (n + r) - μ) * v (n + r) := by
  rw [wgt, Finset.sum_range_add, ← wgt, Finset.sum_range]

/-- One block of `k` tokens advances the sum of exponentials of the first `n` to that of the first `n + k`. -/
theorem step_tot (s : ℕ → EReal) (n k : ℕ) :
    Ideal.exp (top s n - top s (n + k)) * tot s n (top s n) + ∑ r : Fin k, Ideal.exp (s (n + r) - top s (n + k))
      = tot s (n + k) (top s (n + k)) := by
  rw [rescale_tot s n (by rw [top_add]; exact le_max_left _ _), tot_add]

/-- One block of `k` tokens advances the weighted sum of the first `n` to that of the first `n + k`. -/
theorem step_wgt (s v : ℕ → EReal) (n k : ℕ) :
    Ideal.exp (top s n - top s (n + k)) * wgt s v n (top s n)
        + ∑ r : Fin k, Ideal.exp (s (n + r) - top s (n + k)) * v (n + r)
      = wgt s v (n + k) (top s (n + k)) := by
  rw [rescale_wgt s v n (by rw [top_add]; exact le_max_left _ _), wgt_add]

end Cert.Softmax

end
-- ==== Proof.Quant.lean ====
/- The scalar mathematics the kernel and its reference share: an int8 code read back as a number, the quantiser of one
   128-wide row, one attention score, and the last division. -/
module

public import Idealize.ShloMosaic.Lib.Pointwise

@[expose] public section

noncomputable section

namespace Cert.Quant

open Idealize.ShloMosaic

/-- An integer read as a float is that integer, at every format. -/
theorem sitofp_def {w : Nat} (φ : FTy) (b : BitVec w) :
    FloatOps.sitofp (F := Ideal) φ b = ((b.toInt : ℝ) : EReal) := rfl

/-- A float cut to a signed integer, ideally. -/
theorem fptosi_def {φ : FTy} (w : Nat) (x : Ideal φ) : FloatOps.fptosi (F := Ideal) w x = Ideal.fptosi w x := rfl

/-- The absolute value, ideally. -/
theorem absf_def {φ : FTy} (x : Ideal φ) : FloatOps.absf (F := Ideal) x = max x (-x) := rfl

/-- The pattern of `-∞`. -/
theorem ofBits_neg_inf : Ideal.ofBits .f32 0xFF800000#32 = ⊥ := by simp [Ideal.ofBits, Ideal.ieee]

/-- The pattern of `127`. -/
theorem ofBits_127 : Ideal.ofBits .f32 0x42FE0000#32 = ((127 : ℝ) : EReal) := by
  simp [Ideal.ofBits, Ideal.ieee]
  rw [← EReal.coe_mul]
  norm_num

/-- The pattern of `-127`. -/
theorem ofBits_neg_127 : Ideal.ofBits .f32 0xC2FE0000#32 = ((-127 : ℝ) : EReal) := by
  simp [Ideal.ofBits, Ideal.ieee]
  rw [← EReal.coe_mul]
  norm_num

/-- A running maximum from `⊥` is the supremum. -/
theorem fold_max_bot {n : Nat} (f : Fin n → EReal) : (Finset.univ : Finset (Fin n)).fold max ⊥ f = Finset.univ.sup f := rfl

/-- The softmax scale `128 ^ (-1/2)`, as its float32 pattern. -/
def scoreScale : EReal := Ideal.ofBits .f32 0x3DB504F3#32

/-- An int8 code times its scale. -/
def deq (c : BitVec 8) (s : EReal) : EReal := ((c.toInt : ℝ) : EReal) * s

/-- One attention score: a query row against a key row. -/
def score (q k : Fin 128 → EReal) : EReal := (∑ d, q d * k d) * scoreScale

/-- The largest magnitude of a row. -/
def amax (x : Fin 128 → EReal) : EReal := (Finset.univ : Finset (Fin 128)).sup fun d => max (x d) (-(x d))

/-- A row's quantisation scale. -/
def qscale (x : Fin 128 → EReal) : EReal :=
  if amax x = 0 then 1 else Ideal.div (amax x) ((127 : ℝ) : EReal)

/-- A row's element over the scale, rounded and cut to `[-127, 127]`. -/
def qlevel (x : Fin 128 → EReal) (d : Fin 128) : EReal :=
  min ((127 : ℝ) : EReal) (max ((-127 : ℝ) : EReal) (Ideal.liftRound Ideal.roundHalfEven (Ideal.div (x d) (qscale x))))

/-- A row's int8 codes. -/
def qcode (x : Fin 128 → EReal) (d : Fin 128) : BitVec 8 := Ideal.fptosi 8 (qlevel x d)

/-- A row, quantised and read back. -/
def requant (x : Fin 128 → EReal) (d : Fin 128) : EReal := deq (qcode x d) (qscale x)

/-- The last step: the prefix's maximum `m`, sum `l` and weighted sum `a`, the new token's score `s` and value `v`. -/
def finish (m l a s v : EReal) : EReal :=
  Ideal.div (Ideal.exp (m - max m s) * a + Ideal.exp (s - max m s) * v)
    (Ideal.exp (m - max m s) * l + Ideal.exp (s - max m s))

/-- In `[-127, 127]` a cut to 32 bits and then to 8 is the cut to 8. -/
theorem trunc_fptosi (y : EReal) :
    (Ideal.fptosi 32 (min ((127 : ℝ) : EReal) (max ((-127 : ℝ) : EReal) y))).setWidth 8
      = Ideal.fptosi 8 (min ((127 : ℝ) : EReal) (max ((-127 : ℝ) : EReal) y)) := by
  obtain ⟨r, hr, h1, h2⟩ : ∃ r : ℝ, min ((127 : ℝ) : EReal) (max ((-127 : ℝ) : EReal) y) = (r : EReal) ∧ -127 ≤ r ∧ r ≤ 127 := by
    induction y using EReal.rec with
    | bot =>
      refine ⟨-127, ?_, by norm_num, by norm_num⟩
      rw [max_eq_left bot_le, min_eq_right]
      exact EReal.coe_le_coe_iff.2 (by norm_num)
    | top => exact ⟨127, by rw [max_eq_right le_top, min_eq_left le_top], by norm_num, by norm_num⟩
    | coe r =>
      refine ⟨min 127 (max (-127) r), ?_, ?_, min_le_left _ _⟩
      · rw [EReal.coe_strictMono.monotone.map_min, EReal.coe_strictMono.monotone.map_max]
      · exact le_min (by norm_num) (le_max_left _ _)
  rw [hr]
  unfold Ideal.fptosi
  rw [Ideal.toIntClamped_coe, Ideal.toIntClamped_coe]
  have hlo : (-127 : ℤ) ≤ (if 0 ≤ r then ⌊r⌋ else ⌈r⌉) := by
    split
    · exact Int.le_floor.2 (by push_cast; linarith)
    · exact Int.cast_le (R := ℝ).1 (by push_cast; linarith [Int.le_ceil r])
  have hhi : (if 0 ≤ r then ⌊r⌋ else ⌈r⌉) ≤ (127 : ℤ) := by
    split
    · exact Int.cast_le (R := ℝ).1 (by push_cast; linarith [Int.floor_le r])
    · exact Int.ceil_le.2 (by push_cast; linarith)
  generalize (if 0 ≤ r then ⌊r⌋ else ⌈r⌉) = z at hlo hhi
  have e8 : max (-((2 ^ (8 - 1) : Nat) : Int)) (min (((2 ^ (8 - 1) : Nat) : Int) - 1) z) = z := by omega
  have e32 : max (-((2 ^ (32 - 1) : Nat) : Int)) (min (((2 ^ (32 - 1) : Nat) : Int) - 1) z) = z := by omega
  rw [e8, e32]
  apply BitVec.eq_of_toInt_eq
  rw [BitVec.toInt_ofInt]
  rw [BitVec.toInt_setWidth, BitVec.toNat_ofInt]
  simp only [Int.bmod]
  omega

end Cert.Quant

end
-- ==== Proof.Payloads.lean ====
/- What the kernel's pure values are, element by element: one block's update of the running maximum, sum and weighted sum
   (for each of the two kv heads), the quantised new rows, and the last step's output. -/
module

public import proofs.«01_k».proof.Proof.Gen.KernelIdeal.Skeleton
public import proofs.«01_k».proof.Proof.Quant

@[expose] public section

noncomputable section

namespace Cert.Payloads

open Idealize.ShloMosaic Cert.KernelIdeal Cert.KernelIdeal.Gen Cert.Quant

/-! ### The first kv head -/

/-- The block's scores, kv head 0. -/
theorem scores0 (q : Vec Ideal S1x1x8x128 .bf16) (ks : Vec Ideal S1x1x2048 .f32) (kc : Vec Ideal S1x1x2048x128 .i8)
    (g : Fin 8) (r : Fin 2048) :
    k0_pay31 q ks kc (ix2 g r)
      = score (fun d => q (ix4 0 0 g d)) (fun d => deq (kc (ix4 0 0 r d)) (ks (ix3 0 0 r))) := by
  unfold k0_pay31
  pointwise [sitofp_def]
  rfl

/-- The block's values, kv head 0. -/
theorem values0 (vs : Vec Ideal S1x1x2048 .f32) (vc : Vec Ideal S1x1x2048x128 .i8) (r : Fin 2048) (d : Fin 128) :
    k0_pay30 vs vc (ix2 r d) = deq (vc (ix4 0 0 r d)) (vs (ix3 0 0 r)) := by
  unfold k0_pay30
  pointwise [sitofp_def]
  rfl

/-- The new maximum, kv head 0. -/
theorem newMax0 (q : Vec Ideal S1x1x8x128 .bf16) (ks : Vec Ideal S1x1x2048 .f32) (kc : Vec Ideal S1x1x2048x128 .i8)
    (m : Vec Ideal S1x8x1 .f32) (g : Fin 8) :
    k0_pay33 q ks kc m (ix2 g 0)
      = max (m (ix3 0 g 0)) (Finset.univ.sup fun r : Fin 2048 =>
          score (fun d => q (ix4 0 0 g d)) (fun d => deq (kc (ix4 0 0 r d)) (ks (ix3 0 0 r)))) := by
  unfold k0_pay33 k0_pay32
  pointwise [scores0, ofBits_neg_inf, fold_max_bot]

/-- The stored maximum, kv head 0. -/
theorem storedMax0 (v : FVec Ideal S8x1 .f32) (g : Fin 8) : k0_pay38 v (ix3 0 g 0) = v (ix2 g 0) := by
  unfold k0_pay38
  pointwise

/-- The stored sum, kv head 0. -/
theorem storedSum0 (s : FVec Ideal S8x2048 .f32) (m : Vec Ideal S1x8x1 .f32) (m' : FVec Ideal S8x1 .f32)
    (l : Vec Ideal S1x8x1 .f32) (g : Fin 8) :
    k0_pay36 s (k0_pay32 m) m' l (ix3 0 g 0)
      = Ideal.exp (m (ix3 0 g 0) - m' (ix2 g 0)) * l (ix3 0 g 0)
          + ∑ r : Fin 2048, Ideal.exp (s (ix2 g r) - m' (ix2 g 0)) := by
  unfold k0_pay36 k0_pay35 k0_pay34 k0_pay32
  pointwise

/-- The stored weighted sum, kv head 0. -/
theorem storedAcc0 (v : FVec Ideal S2048x128 .bf16) (s : FVec Ideal S8x2048 .f32) (m : Vec Ideal S1x8x1 .f32)
    (m' : FVec Ideal S8x1 .f32) (a : Vec Ideal S1x8x128 .f32) (g : Fin 8) (d : Fin 128) :
    k0_pay37 v s (k0_pay32 m) m' a (ix3 0 g d)
      = Ideal.exp (m (ix3 0 g 0) - m' (ix2 g 0)) * a (ix3 0 g d)
          + ∑ r : Fin 2048, Ideal.exp (s (ix2 g r) - m' (ix2 g 0)) * v (ix2 r d) := by
  unfold k0_pay37 k0_pay35 k0_pay34 k0_pay32
  pointwise

/-! ### The second kv head -/

/-- The block's scores, kv head 1. -/
theorem scores1 (q : Vec Ideal S1x1x8x128 .bf16) (ks : Vec Ideal S1x1x2048 .f32) (kc : Vec Ideal S1x1x2048x128 .i8)
    (g : Fin 8) (r : Fin 2048) :
    k0_pay42 (k0_pay39 q) (k0_pay40 ks) kc (ix2 g r)
      = score (fun d => q (ix4 0 0 g d)) (fun d => deq (kc (ix4 0 0 r d)) (ks (ix3 0 0 r))) := by
  unfold k0_pay42 k0_pay40 k0_pay39
  pointwise [sitofp_def]
  rfl

/-- The block's values, kv head 1. -/
theorem values1 (vs : Vec Ideal S1x1x2048 .f32) (vc : Vec Ideal S1x1x2048x128 .i8) (r : Fin 2048) (d : Fin 128) :
    k0_pay41 vs vc (ix2 r d) = deq (vc (ix4 0 0 r d)) (vs (ix3 0 0 r)) := by
  unfold k0_pay41
  pointwise [sitofp_def]
  rfl

/-- The new maximum, kv head 1. -/
theorem newMax1 (q : Vec Ideal S1x1x8x128 .bf16) (ks : Vec Ideal S1x1x2048 .f32) (kc : Vec Ideal S1x1x2048x128 .i8)
    (m : Vec Ideal S1x8x1 .f32) (g : Fin 8) :
    k0_pay44 (k0_pay39 q) (k0_pay40 ks) kc m (ix2 g 0)
      = max (m (ix3 0 g 0)) (Finset.univ.sup fun r : Fin 2048 =>
          score (fun d => q (ix4 0 0 g d)) (fun d => deq (kc (ix4 0 0 r d)) (ks (ix3 0 0 r)))) := by
  unfold k0_pay44 k0_pay43
  pointwise [scores1, ofBits_neg_inf, fold_max_bot]

/-- The stored maximum, kv head 1. -/
theorem storedMax1 (v : FVec Ideal S8x1 .f32) (g : Fin 8) : k0_pay2 v (ix3 0 g 0) = v (ix2 g 0) := by
  unfold k0_pay2
  pointwise

/-- The stored sum, kv head 1. -/
theorem storedSum1 (q : FVec Ideal S8x128 .bf16) (ks : FVec Ideal S2048x1 .f32) (kc : Vec Ideal S1x1x2048x128 .i8)
    (m : Vec Ideal S1x8x1 .f32) (l : Vec Ideal S1x8x1 .f32) (g : Fin 8) :
    k0_pay47 q ks kc m l (ix3 0 g 0)
      = Ideal.exp (m (ix3 0 g 0) - k0_pay44 q ks kc m (ix2 g 0)) * l (ix3 0 g 0)
          + ∑ r : Fin 2048, Ideal.exp (k0_pay42 q ks kc (ix2 g r) - k0_pay44 q ks kc m (ix2 g 0)) := by
  unfold k0_pay47 k0_pay46 k0_pay45 k0_pay43
  pointwise

/-- The stored weighted sum, kv head 1. -/
theorem storedAcc1 (v : FVec Ideal S2048x128 .bf16) (q : FVec Ideal S8x128 .bf16) (ks : FVec Ideal S2048x1 .f32)
    (kc : Vec Ideal S1x1x2048x128 .i8) (m : Vec Ideal S1x8x1 .f32) (a : Vec Ideal S1x8x128 .f32) (g : Fin 8) (d : Fin 128) :
    k0_pay1 v (k0_pay45 q ks kc m) (k0_pay46 q ks kc m) a (ix3 0 g d)
      = Ideal.exp (m (ix3 0 g 0) - k0_pay44 q ks kc m (ix2 g 0)) * a (ix3 0 g d)
          + ∑ r : Fin 2048, Ideal.exp (k0_pay42 q ks kc (ix2 g r) - k0_pay44 q ks kc m (ix2 g 0)) * v (ix2 r d) := by
  unfold k0_pay1 k0_pay46 k0_pay45 k0_pay43
  pointwise

/-! ### The resets -/

/-- The maximum starts at `-∞`. -/
theorem reset_max (j : S2x8x1.Idx) : k0_pay27 (F := Ideal) j = ⊥ := by
  unfold k0_pay27
  pointwise [ofBits_neg_inf]

/-- The sum starts at zero. -/
theorem reset_sum (j : S2x8x1.Idx) : k0_pay28 (F := Ideal) j = 0 := by
  unfold k0_pay28
  pointwise

/-- The weighted sum starts at zero. -/
theorem reset_acc (j : S2x8x128.Idx) : k0_pay29 (F := Ideal) j = 0 := by
  unfold k0_pay29
  pointwise

/-! ### The new token -/

/-- The new key's scales. -/
theorem keyScale (x : Vec Ideal S1x2x128 .bf16) (k : Fin 2) :
    k0_pay5 x (ix2 k 0) = qscale fun d => x (ix3 0 k d) := by
  unfold k0_pay5 k0_pay4
  pointwise [ofBits_neg_inf, fold_max_bot, absf_def, ofBits_127]
  rfl

/-- The new key's codes. -/
theorem keyCode (x : Vec Ideal S1x2x128 .bf16) (k : Fin 2) (d : Fin 128) :
    k0_pay6 x (ix2 k d) = qcode (fun d => x (ix3 0 k d)) d := by
  unfold k0_pay6 k0_pay4
  pointwise [keyScale, ofBits_127, ofBits_neg_127, fptosi_def]
  rfl

/-- The new value's scales. -/
theorem valueScale (x : Vec Ideal S1x2x128 .bf16) (k : Fin 2) :
    k0_pay8 x (ix2 k 0) = qscale fun d => x (ix3 0 k d) := by
  unfold k0_pay8 k0_pay7
  pointwise [ofBits_neg_inf, fold_max_bot, absf_def, ofBits_127]
  rfl

/-- The new value's codes. -/
theorem valueCode (x : Vec Ideal S1x2x128 .bf16) (k : Fin 2) (d : Fin 128) :
    k0_pay9 x (ix2 k d) = qcode (fun d => x (ix3 0 k d)) d := by
  unfold k0_pay9 k0_pay7
  pointwise [valueScale, ofBits_127, ofBits_neg_127, fptosi_def]
  rfl

/-- The stored codes of the new key. -/
theorem storedKeyCode (x : Vec Ideal S1x2x128 .bf16) (k : Fin 2) (d : Fin 128) :
    k0_pay10 (k0_pay6 x) (ix3 0 k d) = qcode (fun d => x (ix3 0 k d)) d := by
  unfold k0_pay10
  pointwise [keyCode]

/-- The stored codes of the new value. -/
theorem storedValueCode (x : Vec Ideal S1x2x128 .bf16) (k : Fin 2) (d : Fin 128) :
    k0_pay11 (k0_pay9 x) (ix3 0 k d) = qcode (fun d => x (ix3 0 k d)) d := by
  unfold k0_pay11
  pointwise [valueCode]

/-- The stored scales of the new key. -/
theorem storedKeyScale (x : Vec Ideal S1x2x128 .bf16) (k : Fin 2) :
    k0_pay12 (k0_pay5 x) (ix3 0 k 0) = qscale fun d => x (ix3 0 k d) := by
  unfold k0_pay12
  pointwise [keyScale]

/-- The stored scales of the new value. -/
theorem storedValueScale (x : Vec Ideal S1x2x128 .bf16) (k : Fin 2) :
    k0_pay13 (k0_pay8 x) (ix3 0 k 0) = qscale fun d => x (ix3 0 k d) := by
  unfold k0_pay13
  pointwise [valueScale]

/-- The new key, quantised and read back. -/
theorem keyBack (x : Vec Ideal S1x2x128 .bf16) (k : Fin 2) (d : Fin 128) :
    k0_pay14 (k0_pay5 x) (k0_pay6 x) (ix2 k d) = requant (fun d => x (ix3 0 k d)) d := by
  unfold k0_pay14
  pointwise [sitofp_def, keyScale, keyCode]
  rfl

/-- The new value, quantised and read back. -/
theorem valueBack (x : Vec Ideal S1x2x128 .bf16) (k : Fin 2) (d : Fin 128) :
    k0_pay15 (k0_pay8 x) (k0_pay9 x) (ix2 k d) = requant (fun d => x (ix3 0 k d)) d := by
  unfold k0_pay15
  pointwise [sitofp_def, valueScale, valueCode]
  rfl

/-- The new token's score, kv head 0. -/
theorem newScore0 (x : Vec Ideal S1x2x128 .bf16) (q : Vec Ideal S1x1x8x128 .bf16) (g : Fin 8) :
    k0_pay16 (k0_pay5 x) (k0_pay6 x) q (ix2 g 0)
      = score (fun d => q (ix4 0 0 g d)) (requant fun d => x (ix3 0 0 d)) := by
  unfold k0_pay16
  pointwise [keyBack]
  rfl

/-- The new token's score, kv head 1. -/
theorem newScore1 (x : Vec Ideal S1x2x128 .bf16) (q : Vec Ideal S1x1x8x128 .bf16) (g : Fin 8) :
    k0_pay22 (k0_pay14 (k0_pay5 x) (k0_pay6 x)) q (ix2 g 0)
      = score (fun d => q (ix4 0 0 g d)) (requant fun d => x (ix3 0 1 d)) := by
  unfold k0_pay22
  pointwise [keyBack]
  rfl

/-- The stored output, kv head 0. -/
theorem storedOut0 (x y : Vec Ideal S1x2x128 .bf16) (q : Vec Ideal S1x1x8x128 .bf16) (m l : Vec Ideal S1x8x1 .f32)
    (a : Vec Ideal S1x8x128 .f32) (g : Fin 8) (d : Fin 128) :
    k0_pay21 (k0_pay15 (k0_pay8 y) (k0_pay9 y)) (k0_pay19 (k0_pay5 x) (k0_pay6 x) q m)
        (k0_pay20 (k0_pay5 x) (k0_pay6 x) q m) l a (ix4 0 0 g d)
      = finish (m (ix3 0 g 0)) (l (ix3 0 g 0)) (a (ix3 0 g d))
          (score (fun d => q (ix4 0 0 g d)) (requant fun d => x (ix3 0 0 d))) (requant (fun d => y (ix3 0 0 d)) d) := by
  unfold k0_pay21 k0_pay20 k0_pay19 k0_pay18 k0_pay17
  pointwise [valueBack, newScore0]
  rfl

/-- The stored output, kv head 1. -/
theorem storedOut1 (x y : Vec Ideal S1x2x128 .bf16) (q : Vec Ideal S1x1x8x128 .bf16) (m l : Vec Ideal S1x8x1 .f32)
    (a : Vec Ideal S1x8x128 .f32) (g : Fin 8) (d : Fin 128) :
    k0_pay3 (k0_pay15 (k0_pay8 y) (k0_pay9 y)) (k0_pay25 (k0_pay14 (k0_pay5 x) (k0_pay6 x)) q m)
        (k0_pay26 (k0_pay14 (k0_pay5 x) (k0_pay6 x)) q m) l a (ix4 0 0 g d)
      = finish (m (ix3 0 g 0)) (l (ix3 0 g 0)) (a (ix3 0 g d))
          (score (fun d => q (ix4 0 0 g d)) (requant fun d => x (ix3 0 1 d))) (requant (fun d => y (ix3 0 1 d)) d) := by
  unfold k0_pay3 k0_pay26 k0_pay25 k0_pay24 k0_pay23
  pointwise [valueBack, newScore1]
  rfl

end Cert.Payloads

end
-- ==== Proof.Step.lean ====
/- One block's update of the running maximum, sum and weighted sum, as functions of whole blocks, and the rules by which a
   buffer stored one kv head at a time is read. -/
module

public import Idealize.ShloMosaic.Lib.Pipeline.ValueKit
public import proofs.«01_k».proof.Proof.Payloads

@[expose] public section

noncomputable section

namespace Cert.Step

open Idealize.ShloMosaic Cert.KernelIdeal Cert.KernelIdeal.Gen Cert.Quant

/-! ### The update -/

/-- The scores of a block's tokens for kv head `k`, query head `g`: query block, key codes, key scales. -/
def blkScore (q : Vec Ideal S1x2x8x128 .bf16) (kc : Vec Ideal S1x2x2048x128 .i8) (ks : Vec Ideal S1x2x2048 .f32)
    (k : Fin 2) (g : Fin 8) (r : Fin 2048) : EReal :=
  score (fun d => q (ix4 0 k g d)) (fun d => deq (kc (ix4 0 k r d)) (ks (ix3 0 k r)))

/-- A block's values, read back from codes and scales. -/
def blkValue (vc : Vec Ideal S1x2x2048x128 .i8) (vs : Vec Ideal S1x2x2048 .f32) (k : Fin 2) (d : Fin 128)
    (r : Fin 2048) : EReal :=
  deq (vc (ix4 0 k r d)) (vs (ix3 0 k r))

/-- The new maximum of one head. -/
def maxOf (s : Fin 2048 → EReal) (m : EReal) : EReal := max m (Finset.univ.sup s)

/-- The new sum of one head. -/
def sumOf (s : Fin 2048 → EReal) (m l : EReal) : EReal :=
  Ideal.exp (m - maxOf s m) * l + ∑ r, Ideal.exp (s r - maxOf s m)

/-- The new weighted sum of one head, one column. -/
def accOf (s v : Fin 2048 → EReal) (m a : EReal) : EReal :=
  Ideal.exp (m - maxOf s m) * a + ∑ r, Ideal.exp (s r - maxOf s m) * v r

/-- The maxima after a block. -/
def stepMax (q : Vec Ideal S1x2x8x128 .bf16) (kc : Vec Ideal S1x2x2048x128 .i8) (ks : Vec Ideal S1x2x2048 .f32)
    (m : Vec Ideal S2x8x1 .f32) : Vec Ideal S2x8x1 .f32 :=
  fun j => maxOf (blkScore q kc ks (j 0) (j 1)) (m (ix3 (j 0) (j 1) 0))

/-- The sums after a block. -/
def stepSum (q : Vec Ideal S1x2x8x128 .bf16) (kc : Vec Ideal S1x2x2048x128 .i8) (ks : Vec Ideal S1x2x2048 .f32)
    (m l : Vec Ideal S2x8x1 .f32) : Vec Ideal S2x8x1 .f32 :=
  fun j => sumOf (blkScore q kc ks (j 0) (j 1)) (m (ix3 (j 0) (j 1) 0)) (l (ix3 (j 0) (j 1) 0))

/-- The weighted sums after a block. -/
def stepAcc (q : Vec Ideal S1x2x8x128 .bf16) (kc : Vec Ideal S1x2x2048x128 .i8) (ks : Vec Ideal S1x2x2048 .f32)
    (vc : Vec Ideal S1x2x2048x128 .i8) (vs : Vec Ideal S1x2x2048 .f32) (m : Vec Ideal S2x8x1 .f32)
    (a : Vec Ideal S2x8x128 .f32) : Vec Ideal S2x8x128 .f32 :=
  fun j => accOf (blkScore q kc ks (j 0) (j 1)) (blkValue vc vs (j 0) (j 2)) (m (ix3 (j 0) (j 1) 0))
    (a (ix3 (j 0) (j 1) (j 2)))

/-- The output block from the final maxima, sums and weighted sums, and the new key and value rows. -/
def outBlock (q : Vec Ideal S1x2x8x128 .bf16) (x y : Vec Ideal S1x2x128 .bf16) (m l : Vec Ideal S2x8x1 .f32)
    (a : Vec Ideal S2x8x128 .f32) : Vec Ideal S1x2x8x128 .bf16 :=
  fun j => finish (m (ix3 (j 1) (j 2) 0)) (l (ix3 (j 1) (j 2) 0)) (a (ix3 (j 1) (j 2) (j 3)))
    (score (fun d => q (ix4 0 (j 1) (j 2) d)) (requant fun d => x (ix3 0 (j 1) d)))
    (requant (fun d => y (ix3 0 (j 1) d)) (j 3))

/-! ### Buffers stored by kv head -/

/-- A unit-stride rectangle places its local index `x` at `i` when the coordinates say so. -/
theorem emb_eq {s : Shape} (off size : Fin s.rank → Nat) (inb : ∀ a, off a + size a ≤ s.size a)
    (x : (Rect.unit off size inb).shape.Idx) (i : s.Idx) (h : ∀ a, (i a : Nat) = off a + x a) :
    (Rect.unit off size inb).emb x = i :=
  funext fun a => Fin.ext ((Rect.idx_unit_val off size inb x a).trans (h a).symm)

/-- A load after stores, at an index: what the stores left at the index placed. -/
theorem cov_apply {sig : RefSig} {κ : Kind} {sp : Space} {s : Shape} {e : EltTy} (v : View sig κ sp s e)
    (L : List (View.Piece (Elt Ideal) s e)) (off size : Fin s.rank → Nat) (inb : ∀ a, off a + size a ≤ s.size a)
    (x : (Rect.unit off size inb).shape.Idx) (i : s.Idx) (h : ∀ a, (i a : Nat) = off a + x a) :
    v.readCov L (Rect.unit off size inb).toLoadRect x = View.canon L i := by
  rw [View.readCov_eq_canon']
  exact congrArg (View.canon L) (emb_eq off size inb x i h)

/-- A load of a whole memref's contents, at an index: the contents at the index placed. -/
theorem at_apply {sig : RefSig} {κ : Kind} {sp : Space} {s : Shape} {e : EltTy} {v : Memref sig κ sp s e} (hv : v.IsWhole)
    (X : s.Idx → Elt Ideal e) (off size : Fin s.rank → Nat) (inb : ∀ a, off a + size a ≤ s.size a)
    (x : (Rect.unit off size inb).shape.Idx) (i : s.Idx) (h : ∀ a, (i a : Nat) = off a + x a) :
    View.readAt (Elt Ideal) v.view (Rect.unit off size inb).toLoadRect (hv.unread X) x = X i := by
  rw [View.readAt_eq_ld, hv.read_unread]
  exact View.ld_unit_apply_of X off size inb x i h

/-- Under the last store, its payload. -/
theorem canon_hit {s : Shape} {e : EltTy} (off size : Fin s.rank → Nat) (inb : ∀ a, off a + size a ≤ s.size a)
    (w : (Rect.unit off size inb).shape.Idx → Elt Ideal e) (L : List (View.Piece (Elt Ideal) s e))
    (x : (Rect.unit off size inb).shape.Idx) (i : s.Idx) (h : ∀ a, (i a : Nat) = off a + x a) :
    View.canon ((⟨Rect.unit off size inb, w⟩ : View.Piece (Elt Ideal) s e) :: L) i = w x := by
  rw [← emb_eq off size inb x i h, View.canon_cons_emb]

/-- Off the last store, the earlier ones. -/
theorem canon_miss {s : Shape} {e : EltTy} (off size : Fin s.rank → Nat) (inb : ∀ a, off a + size a ≤ s.size a)
    (w : (Rect.unit off size inb).shape.Idx → Elt Ideal e) (L : List (View.Piece (Elt Ideal) s e))
    (i : s.Idx) (a : Fin s.rank) (h : (i a : Nat) < off a ∨ off a + size a ≤ i a) :
    View.canon ((⟨Rect.unit off size inb, w⟩ : View.Piece (Elt Ideal) s e) :: L) i = View.canon L i := by
  refine View.canon_cons_of_not_mem _ _ fun hm => ?_
  have := (Rect.mem_set_unit (inb := inb)).mp hm a
  omega

/-- A fact about each of three axes. -/
theorem all3 {P : Fin 3 → Prop} (h0 : P 0) (h1 : P 1) (h2 : P 2) (a : Fin 3) : P a := by
  fin_cases a <;> assumption

/-- A fact about each of four axes. -/
theorem all4 {P : Fin 4 → Prop} (h0 : P 0) (h1 : P 1) (h2 : P 2) (h3 : P 3) (a : Fin 4) : P a := by
  fin_cases a <;> assumption

/-- Two stores, one per kv head, hold `f` when each holds its half of it (maxima and sums). -/
theorem canon_col (w1 w0 : Vec Ideal S1x8x1 .f32) (L : List (View.Piece (Elt Ideal) S2x8x1 .f32)) (f : Vec Ideal S2x8x1 .f32)
    (i1 : ∀ a, (![1, 0, 0] : Fin 3 → Nat) a + S1x8x1.size a ≤ S2x8x1.size a)
    (i0 : ∀ a, (![0, 0, 0] : Fin 3 → Nat) a + S1x8x1.size a ≤ S2x8x1.size a)
    (h1 : ∀ g : Fin 8, w1 (ix3 0 g 0) = f (ix3 1 g 0)) (h0 : ∀ g : Fin 8, w0 (ix3 0 g 0) = f (ix3 0 g 0)) :
    View.canon ((⟨Rect.unit ![1, 0, 0] S1x8x1.size i1, w1⟩ : View.Piece (Elt Ideal) S2x8x1 .f32)
      :: ⟨Rect.unit ![0, 0, 0] S1x8x1.size i0, w0⟩ :: L) = f := by
  funext j
  obtain ⟨k, g, z, rfl⟩ : ∃ k g z, j = ix3 k g z := ⟨_, _, _, eq_ix3 j⟩
  obtain rfl : z = 0 := Subsingleton.elim _ _
  match k with
  | 1 =>
    exact (canon_hit (s := S2x8x1) (e := .f32) ![1, 0, 0] S1x8x1.size i1 w1 _ (ix3 0 g 0) (ix3 1 g 0)
      (all3 rfl (Nat.zero_add _).symm (Nat.zero_add _).symm)).trans (h1 g)
  | 0 =>
    refine (canon_miss (s := S2x8x1) (e := .f32) ![1, 0, 0] S1x8x1.size i1 w1 _ (ix3 0 g 0) 0 (Or.inl Nat.zero_lt_one)).trans ?_
    exact (canon_hit (s := S2x8x1) (e := .f32) ![0, 0, 0] S1x8x1.size i0 w0 _ (ix3 0 g 0) (ix3 0 g 0)
      (all3 (Nat.zero_add _).symm (Nat.zero_add _).symm (Nat.zero_add _).symm)).trans (h0 g)

/-- Two stores, one per kv head, hold `f` when each holds its half of it (weighted sums). -/
theorem canon_row (w1 w0 : Vec Ideal S1x8x128 .f32) (L : List (View.Piece (Elt Ideal) S2x8x128 .f32))
    (f : Vec Ideal S2x8x128 .f32)
    (i1 : ∀ a, (![1, 0, 0] : Fin 3 → Nat) a + S1x8x128.size a ≤ S2x8x128.size a)
    (i0 : ∀ a, (![0, 0, 0] : Fin 3 → Nat) a + S1x8x128.size a ≤ S2x8x128.size a)
    (h1 : ∀ (g : Fin 8) (d : Fin 128), w1 (ix3 0 g d) = f (ix3 1 g d))
    (h0 : ∀ (g : Fin 8) (d : Fin 128), w0 (ix3 0 g d) = f (ix3 0 g d)) :
    View.canon ((⟨Rect.unit ![1, 0, 0] S1x8x128.size i1, w1⟩ : View.Piece (Elt Ideal) S2x8x128 .f32)
      :: ⟨Rect.unit ![0, 0, 0] S1x8x128.size i0, w0⟩ :: L) = f := by
  funext j
  obtain ⟨k, g, d, rfl⟩ : ∃ k g d, j = ix3 k g d := ⟨_, _, _, eq_ix3 j⟩
  match k with
  | 1 =>
    exact (canon_hit (s := S2x8x128) (e := .f32) ![1, 0, 0] S1x8x128.size i1 w1 _ (ix3 0 g d) (ix3 1 g d)
      (all3 rfl (Nat.zero_add _).symm (Nat.zero_add _).symm)).trans (h1 g d)
  | 0 =>
    refine (canon_miss (s := S2x8x128) (e := .f32) ![1, 0, 0] S1x8x128.size i1 w1 _ (ix3 0 g d) 0 (Or.inl Nat.zero_lt_one)).trans ?_
    exact (canon_hit (s := S2x8x128) (e := .f32) ![0, 0, 0] S1x8x128.size i0 w0 _ (ix3 0 g d) (ix3 0 g d)
      (all3 (Nat.zero_add _).symm (Nat.zero_add _).symm (Nat.zero_add _).symm)).trans (h0 g d)

/-- Two stores, one per kv head, hold `f` when each holds its half of it (the output block). -/
theorem canon_out (w1 w0 : Vec Ideal S1x1x8x128 .bf16) (L : List (View.Piece (Elt Ideal) S1x2x8x128 .bf16))
    (f : Vec Ideal S1x2x8x128 .bf16)
    (i1 : ∀ a, (![0, 1, 0, 0] : Fin 4 → Nat) a + S1x1x8x128.size a ≤ S1x2x8x128.size a)
    (i0 : ∀ a, (![0, 0, 0, 0] : Fin 4 → Nat) a + S1x1x8x128.size a ≤ S1x2x8x128.size a)
    (h1 : ∀ (g : Fin 8) (d : Fin 128), w1 (ix4 0 0 g d) = f (ix4 0 1 g d))
    (h0 : ∀ (g : Fin 8) (d : Fin 128), w0 (ix4 0 0 g d) = f (ix4 0 0 g d)) :
    View.canon ((⟨Rect.unit ![0, 1, 0, 0] S1x1x8x128.size i1, w1⟩ : View.Piece (Elt Ideal) S1x2x8x128 .bf16)
      :: ⟨Rect.unit ![0, 0, 0, 0] S1x1x8x128.size i0, w0⟩ :: L) = f := by
  funext j
  obtain ⟨z, k, g, d, rfl⟩ : ∃ z k g d, j = ix4 z k g d := ⟨_, _, _, _, eq_ix4 j⟩
  obtain rfl : z = 0 := Subsingleton.elim _ _
  match k with
  | 1 =>
    exact (canon_hit (s := S1x2x8x128) (e := .bf16) ![0, 1, 0, 0] S1x1x8x128.size i1 w1 _ (ix4 0 0 g d) (ix4 0 1 g d)
      (all4 (Nat.zero_add _).symm rfl (Nat.zero_add _).symm (Nat.zero_add _).symm)).trans (h1 g d)
  | 0 =>
    refine (canon_miss (s := S1x2x8x128) (e := .bf16) ![0, 1, 0, 0] S1x1x8x128.size i1 w1 _ (ix4 0 0 g d) 1 (Or.inl Nat.zero_lt_one)).trans ?_
    exact (canon_hit (s := S1x2x8x128) (e := .bf16) ![0, 0, 0, 0] S1x1x8x128.size i0 w0 _ (ix4 0 0 g d) (ix4 0 0 g d)
      (all4 (Nat.zero_add _).symm (Nat.zero_add _).symm (Nat.zero_add _).symm (Nat.zero_add _).symm)).trans (h0 g d)

end Cert.Step

end
-- ==== Proof.Store.lean ====
/- Loads of one kv head out of a buffer, and what the stores of one grid step, taken together, leave in a buffer. -/
module

public import proofs.«01_k».proof.Proof.Step

@[expose] public section

noncomputable section

namespace Cert.Block

open Idealize.ShloMosaic Cert.KernelIdeal Cert.KernelIdeal.Gen Cert.Quant Cert.Payloads Cert.Step
  Idealize.ShloMosaic.TcCoe Idealize.SL.Sem Idealize.ShloMosaic.Tactic

/-! ### Loads of one kv head -/

section Loads
variable {sig : RefSig} {κ : Kind} {sp : Space}

/-- Kv head 0 of the query block, loaded. -/
theorem loadQ0 {v : Memref sig κ sp S1x2x8x128 .bf16} (hv : v.IsWhole) (X : Vec Ideal S1x2x8x128 .bf16)
    (inb : ∀ a, (![0, 0, 0, 0] : Fin 4 → Nat) a + S1x1x8x128.size a ≤ S1x2x8x128.size a) (g : Fin 8) (d : Fin 128) :
    View.readAt (Elt Ideal) v.view (Rect.unit (s := S1x2x8x128) ![0, 0, 0, 0] S1x1x8x128.size inb).toLoadRect (hv.unread X) (ix4 0 0 g d)
      = X (ix4 0 0 g d) :=
  at_apply hv X _ _ inb _ _ (all4 (Nat.zero_add _).symm (Nat.zero_add _).symm (Nat.zero_add _).symm (Nat.zero_add _).symm)

/-- Kv head 1 of the query block, loaded. -/
theorem loadQ1 {v : Memref sig κ sp S1x2x8x128 .bf16} (hv : v.IsWhole) (X : Vec Ideal S1x2x8x128 .bf16)
    (inb : ∀ a, (![0, 1, 0, 0] : Fin 4 → Nat) a + S1x1x8x128.size a ≤ S1x2x8x128.size a) (g : Fin 8) (d : Fin 128) :
    View.readAt (Elt Ideal) v.view (Rect.unit (s := S1x2x8x128) ![0, 1, 0, 0] S1x1x8x128.size inb).toLoadRect (hv.unread X) (ix4 0 0 g d)
      = X (ix4 0 1 g d) :=
  at_apply hv X _ _ inb _ _ (all4 (Nat.zero_add _).symm rfl (Nat.zero_add _).symm (Nat.zero_add _).symm)

/-- Kv head 0 of a block of codes, loaded. -/
theorem loadC0 {v : Memref sig κ sp S1x2x2048x128 .i8} (hv : v.IsWhole) (X : Vec Ideal S1x2x2048x128 .i8)
    (inb : ∀ a, (![0, 0, 0, 0] : Fin 4 → Nat) a + S1x1x2048x128.size a ≤ S1x2x2048x128.size a) (r : Fin 2048) (d : Fin 128) :
    View.readAt (Elt Ideal) v.view (Rect.unit (s := S1x2x2048x128) ![0, 0, 0, 0] S1x1x2048x128.size inb).toLoadRect (hv.unread X) (ix4 0 0 r d)
      = X (ix4 0 0 r d) :=
  at_apply hv X _ _ inb _ _ (all4 (Nat.zero_add _).symm (Nat.zero_add _).symm (Nat.zero_add _).symm (Nat.zero_add _).symm)

/-- Kv head 1 of a block of codes, loaded. -/
theorem loadC1 {v : Memref sig κ sp S1x2x2048x128 .i8} (hv : v.IsWhole) (X : Vec Ideal S1x2x2048x128 .i8)
    (inb : ∀ a, (![0, 1, 0, 0] : Fin 4 → Nat) a + S1x1x2048x128.size a ≤ S1x2x2048x128.size a) (r : Fin 2048) (d : Fin 128) :
    View.readAt (Elt Ideal) v.view (Rect.unit (s := S1x2x2048x128) ![0, 1, 0, 0] S1x1x2048x128.size inb).toLoadRect (hv.unread X) (ix4 0 0 r d)
      = X (ix4 0 1 r d) :=
  at_apply hv X _ _ inb _ _ (all4 (Nat.zero_add _).symm rfl (Nat.zero_add _).symm (Nat.zero_add _).symm)

/-- Kv head 0 of a block of scales, loaded. -/
theorem loadS0 {v : Memref sig κ sp S1x2x2048 .f32} (hv : v.IsWhole) (X : Vec Ideal S1x2x2048 .f32)
    (inb : ∀ a, (![0, 0, 0] : Fin 3 → Nat) a + S1x1x2048.size a ≤ S1x2x2048.size a) (r : Fin 2048) :
    View.readAt (Elt Ideal) v.view (Rect.unit (s := S1x2x2048) ![0, 0, 0] S1x1x2048.size inb).toLoadRect (hv.unread X) (ix3 0 0 r)
      = X (ix3 0 0 r) :=
  at_apply hv X _ _ inb _ _ (all3 (Nat.zero_add _).symm (Nat.zero_add _).symm (Nat.zero_add _).symm)

/-- Kv head 1 of a block of scales, loaded. -/
theorem loadS1 {v : Memref sig κ sp S1x2x2048 .f32} (hv : v.IsWhole) (X : Vec Ideal S1x2x2048 .f32)
    (inb : ∀ a, (![0, 1, 0] : Fin 3 → Nat) a + S1x1x2048.size a ≤ S1x2x2048.size a) (r : Fin 2048) :
    View.readAt (Elt Ideal) v.view (Rect.unit (s := S1x2x2048) ![0, 1, 0] S1x1x2048.size inb).toLoadRect (hv.unread X) (ix3 0 0 r)
      = X (ix3 0 1 r) :=
  at_apply hv X _ _ inb _ _ (all3 (Nat.zero_add _).symm rfl (Nat.zero_add _).symm)

/-- Kv head 0 of maxima or sums, loaded. -/
theorem loadM0 {v : Memref sig κ sp S2x8x1 .f32} (hv : v.IsWhole) (X : Vec Ideal S2x8x1 .f32)
    (inb : ∀ a, (![0, 0, 0] : Fin 3 → Nat) a + S1x8x1.size a ≤ S2x8x1.size a) (g : Fin 8) :
    View.readAt (Elt Ideal) v.view (Rect.unit (s := S2x8x1) ![0, 0, 0] S1x8x1.size inb).toLoadRect (hv.unread X) (ix3 0 g 0)
      = X (ix3 0 g 0) :=
  at_apply hv X _ _ inb _ _ (all3 (Nat.zero_add _).symm (Nat.zero_add _).symm (Nat.zero_add _).symm)

/-- Kv head 1 of maxima or sums, loaded. -/
theorem loadM1 {v : Memref sig κ sp S2x8x1 .f32} (hv : v.IsWhole) (X : Vec Ideal S2x8x1 .f32)
    (inb : ∀ a, (![1, 0, 0] : Fin 3 → Nat) a + S1x8x1.size a ≤ S2x8x1.size a) (g : Fin 8) :
    View.readAt (Elt Ideal) v.view (Rect.unit (s := S2x8x1) ![1, 0, 0] S1x8x1.size inb).toLoadRect (hv.unread X) (ix3 0 g 0)
      = X (ix3 1 g 0) :=
  at_apply hv X _ _ inb _ _ (all3 rfl (Nat.zero_add _).symm (Nat.zero_add _).symm)

/-- Kv head 0 of weighted sums, loaded. -/
theorem loadA0 {v : Memref sig κ sp S2x8x128 .f32} (hv : v.IsWhole) (X : Vec Ideal S2x8x128 .f32)
    (inb : ∀ a, (![0, 0, 0] : Fin 3 → Nat) a + S1x8x128.size a ≤ S2x8x128.size a) (g : Fin 8) (d : Fin 128) :
    View.readAt (Elt Ideal) v.view (Rect.unit (s := S2x8x128) ![0, 0, 0] S1x8x128.size inb).toLoadRect (hv.unread X) (ix3 0 g d)
      = X (ix3 0 g d) :=
  at_apply hv X _ _ inb _ _ (all3 (Nat.zero_add _).symm (Nat.zero_add _).symm (Nat.zero_add _).symm)

/-- Kv head 1 of weighted sums, loaded. -/
theorem loadA1 {v : Memref sig κ sp S2x8x128 .f32} (hv : v.IsWhole) (X : Vec Ideal S2x8x128 .f32)
    (inb : ∀ a, (![1, 0, 0] : Fin 3 → Nat) a + S1x8x128.size a ≤ S2x8x128.size a) (g : Fin 8) (d : Fin 128) :
    View.readAt (Elt Ideal) v.view (Rect.unit (s := S2x8x128) ![1, 0, 0] S1x8x128.size inb).toLoadRect (hv.unread X) (ix3 0 g d)
      = X (ix3 1 g d) :=
  at_apply hv X _ _ inb _ _ (all3 rfl (Nat.zero_add _).symm (Nat.zero_add _).symm)

/-- Kv head 0 of maxima or sums, loaded after stores. -/
theorem covM0 (v : View sig κ sp S2x8x1 .f32) (L : List (View.Piece (Elt Ideal) S2x8x1 .f32))
    (inb : ∀ a, (![0, 0, 0] : Fin 3 → Nat) a + S1x8x1.size a ≤ S2x8x1.size a) (g : Fin 8) :
    v.readCov L (Rect.unit (s := S2x8x1) ![0, 0, 0] S1x8x1.size inb).toLoadRect (ix3 0 g 0) = View.canon L (ix3 0 g 0) :=
  cov_apply v L _ _ inb _ _ (all3 (Nat.zero_add _).symm (Nat.zero_add _).symm (Nat.zero_add _).symm)

/-- Kv head 1 of maxima or sums, loaded after stores. -/
theorem covM1 (v : View sig κ sp S2x8x1 .f32) (L : List (View.Piece (Elt Ideal) S2x8x1 .f32))
    (inb : ∀ a, (![1, 0, 0] : Fin 3 → Nat) a + S1x8x1.size a ≤ S2x8x1.size a) (g : Fin 8) :
    v.readCov L (Rect.unit (s := S2x8x1) ![1, 0, 0] S1x8x1.size inb).toLoadRect (ix3 0 g 0) = View.canon L (ix3 1 g 0) :=
  cov_apply v L _ _ inb _ _ (all3 rfl (Nat.zero_add _).symm (Nat.zero_add _).symm)

/-- Kv head 0 of weighted sums, loaded after stores. -/
theorem covA0 (v : View sig κ sp S2x8x128 .f32) (L : List (View.Piece (Elt Ideal) S2x8x128 .f32))
    (inb : ∀ a, (![0, 0, 0] : Fin 3 → Nat) a + S1x8x128.size a ≤ S2x8x128.size a) (g : Fin 8) (d : Fin 128) :
    v.readCov L (Rect.unit (s := S2x8x128) ![0, 0, 0] S1x8x128.size inb).toLoadRect (ix3 0 g d) = View.canon L (ix3 0 g d) :=
  cov_apply v L _ _ inb _ _ (all3 (Nat.zero_add _).symm (Nat.zero_add _).symm (Nat.zero_add _).symm)

/-- Kv head 1 of weighted sums, loaded after stores. -/
theorem covA1 (v : View sig κ sp S2x8x128 .f32) (L : List (View.Piece (Elt Ideal) S2x8x128 .f32))
    (inb : ∀ a, (![1, 0, 0] : Fin 3 → Nat) a + S1x8x128.size a ≤ S2x8x128.size a) (g : Fin 8) (d : Fin 128) :
    v.readCov L (Rect.unit (s := S2x8x128) ![1, 0, 0] S1x8x128.size inb).toLoadRect (ix3 0 g d) = View.canon L (ix3 1 g d) :=
  cov_apply v L _ _ inb _ _ (all3 rfl (Nat.zero_add _).symm (Nat.zero_add _).symm)

/-- After a store of the first kv head, the second still holds what the whole store before left (maxima or sums). -/
theorem laterM (w0 : Vec Ideal S1x8x1 .f32) (z : Vec Ideal S2x8x1 .f32)
    (i0 : ∀ a, (![0, 0, 0] : Fin 3 → Nat) a + S1x8x1.size a ≤ S2x8x1.size a)
    (i : ∀ a, (![0, 0, 0] : Fin 3 → Nat) a + S2x8x1.size a ≤ S2x8x1.size a) (g : Fin 8) :
    View.canon [(⟨Rect.unit (s := S2x8x1) ![0, 0, 0] S1x8x1.size i0, w0⟩ : View.Piece (Elt Ideal) S2x8x1 .f32),
      ⟨Rect.unit (s := S2x8x1) ![0, 0, 0] S2x8x1.size i, z⟩] (ix3 1 g 0) = z (ix3 1 g 0) :=
  (canon_miss (s := S2x8x1) (e := .f32) ![0, 0, 0] S1x8x1.size i0 w0 _ (ix3 1 g 0) 0
    (Or.inr (le_refl 1))).trans
  (canon_hit (s := S2x8x1) (e := .f32) ![0, 0, 0] S2x8x1.size i z _ (ix3 1 g 0) _ (all3 (Nat.zero_add _).symm (Nat.zero_add _).symm (Nat.zero_add _).symm))

/-- After a whole store, its payload (maxima or sums). -/
theorem firstM (z : Vec Ideal S2x8x1 .f32)
    (i : ∀ a, (![0, 0, 0] : Fin 3 → Nat) a + S2x8x1.size a ≤ S2x8x1.size a) (j : S2x8x1.Idx) :
    View.canon [(⟨Rect.unit (s := S2x8x1) ![0, 0, 0] S2x8x1.size i, z⟩ : View.Piece (Elt Ideal) S2x8x1 .f32)] j = z j :=
  canon_hit (s := S2x8x1) (e := .f32) ![0, 0, 0] S2x8x1.size i z _ j _ (all3 (Nat.zero_add _).symm (Nat.zero_add _).symm (Nat.zero_add _).symm)

/-- After a store of the first kv head, the second still holds what the whole store before left (weighted sums). -/
theorem laterA (w0 : Vec Ideal S1x8x128 .f32) (z : Vec Ideal S2x8x128 .f32)
    (i0 : ∀ a, (![0, 0, 0] : Fin 3 → Nat) a + S1x8x128.size a ≤ S2x8x128.size a)
    (i : ∀ a, (![0, 0, 0] : Fin 3 → Nat) a + S2x8x128.size a ≤ S2x8x128.size a) (g : Fin 8) (d : Fin 128) :
    View.canon [(⟨Rect.unit (s := S2x8x128) ![0, 0, 0] S1x8x128.size i0, w0⟩ : View.Piece (Elt Ideal) S2x8x128 .f32),
      ⟨Rect.unit (s := S2x8x128) ![0, 0, 0] S2x8x128.size i, z⟩] (ix3 1 g d) = z (ix3 1 g d) :=
  (canon_miss (s := S2x8x128) (e := .f32) ![0, 0, 0] S1x8x128.size i0 w0 _ (ix3 1 g d) 0
    (Or.inr (le_refl 1))).trans
  (canon_hit (s := S2x8x128) (e := .f32) ![0, 0, 0] S2x8x128.size i z _ (ix3 1 g d) _ (all3 (Nat.zero_add _).symm (Nat.zero_add _).symm (Nat.zero_add _).symm))

/-- After a whole store, its payload (weighted sums). -/
theorem firstA (z : Vec Ideal S2x8x128 .f32)
    (i : ∀ a, (![0, 0, 0] : Fin 3 → Nat) a + S2x8x128.size a ≤ S2x8x128.size a) (j : S2x8x128.Idx) :
    View.canon [(⟨Rect.unit (s := S2x8x128) ![0, 0, 0] S2x8x128.size i, z⟩ : View.Piece (Elt Ideal) S2x8x128 .f32)] j = z j :=
  canon_hit (s := S2x8x128) (e := .f32) ![0, 0, 0] S2x8x128.size i z _ j _ (all3 (Nat.zero_add _).symm (Nat.zero_add _).symm (Nat.zero_add _).symm)

/-- A load of a whole block of new rows. -/
theorem loadX {v : Memref sig κ sp S1x2x128 .bf16} (hv : v.IsWhole) (X : Vec Ideal S1x2x128 .bf16)
    (inb : ∀ a, (![0, 0, 0] : Fin 3 → Nat) a + S1x2x128.size a ≤ S1x2x128.size a) :
    View.readAt (Elt Ideal) v.view (Rect.unit ![0, 0, 0] S1x2x128.size inb).toLoadRect (hv.unread X) = X :=
  funext fun j => at_apply hv X _ _ inb _ _ (all3 (Nat.zero_add _).symm (Nat.zero_add _).symm (Nat.zero_add _).symm)

end Loads

/-! ### The stores of one step -/

section Stores
variable {q : Vec Ideal S1x2x8x128 .bf16} {kc vc : Vec Ideal S1x2x2048x128 .i8} {ks vs : Vec Ideal S1x2x2048 .f32}
  {m l : Vec Ideal S2x8x1 .f32} {a : Vec Ideal S2x8x128 .f32}
  {q0 q1 : Vec Ideal S1x1x8x128 .bf16} {kc0 kc1 vc0 vc1 : Vec Ideal S1x1x2048x128 .i8}
  {ks0 ks1 vs0 vs1 : Vec Ideal S1x1x2048 .f32} {m0 m1 l0 l1 : Vec Ideal S1x8x1 .f32} {a0 a1 : Vec Ideal S1x8x128 .f32}

/-- The maxima stored, from loads that hold the blocks' halves. -/
theorem canonMax (hq0 : ∀ g d, q0 (ix4 0 0 g d) = q (ix4 0 0 g d)) (hq1 : ∀ g d, q1 (ix4 0 0 g d) = q (ix4 0 1 g d))
    (hc0 : ∀ r d, kc0 (ix4 0 0 r d) = kc (ix4 0 0 r d)) (hc1 : ∀ r d, kc1 (ix4 0 0 r d) = kc (ix4 0 1 r d))
    (hs0 : ∀ r, ks0 (ix3 0 0 r) = ks (ix3 0 0 r)) (hs1 : ∀ r, ks1 (ix3 0 0 r) = ks (ix3 0 1 r))
    (hm0 : ∀ g, m0 (ix3 0 g 0) = m (ix3 0 g 0)) (hm1 : ∀ g, m1 (ix3 0 g 0) = m (ix3 1 g 0))
    (L : List (View.Piece (Elt Ideal) S2x8x1 .f32))
    (i1 : ∀ a, (![1, 0, 0] : Fin 3 → Nat) a + S1x8x1.size a ≤ S2x8x1.size a)
    (i0 : ∀ a, (![0, 0, 0] : Fin 3 → Nat) a + S1x8x1.size a ≤ S2x8x1.size a) :
    View.canon ((⟨Rect.unit ![1, 0, 0] S1x8x1.size i1, k0_pay2 (k0_pay44 (k0_pay39 q1) (k0_pay40 ks1) kc1 m1)⟩ :
        View.Piece (Elt Ideal) S2x8x1 .f32)
      :: ⟨Rect.unit ![0, 0, 0] S1x8x1.size i0, k0_pay38 (k0_pay33 q0 ks0 kc0 m0)⟩ :: L) = stepMax q kc ks m := by
  refine canon_col _ _ _ _ i1 i0 (fun g => ?_) (fun g => ?_)
  · rw [storedMax1, newMax1]
    simp only [hq1, hc1, hs1, hm1]
    rfl
  · rw [storedMax0, newMax0]
    simp only [hq0, hc0, hs0, hm0]
    rfl

/-- The sums stored. -/
theorem canonSum (hq0 : ∀ g d, q0 (ix4 0 0 g d) = q (ix4 0 0 g d)) (hq1 : ∀ g d, q1 (ix4 0 0 g d) = q (ix4 0 1 g d))
    (hc0 : ∀ r d, kc0 (ix4 0 0 r d) = kc (ix4 0 0 r d)) (hc1 : ∀ r d, kc1 (ix4 0 0 r d) = kc (ix4 0 1 r d))
    (hs0 : ∀ r, ks0 (ix3 0 0 r) = ks (ix3 0 0 r)) (hs1 : ∀ r, ks1 (ix3 0 0 r) = ks (ix3 0 1 r))
    (hm0 : ∀ g, m0 (ix3 0 g 0) = m (ix3 0 g 0)) (hm1 : ∀ g, m1 (ix3 0 g 0) = m (ix3 1 g 0))
    (hl0 : ∀ g, l0 (ix3 0 g 0) = l (ix3 0 g 0)) (hl1 : ∀ g, l1 (ix3 0 g 0) = l (ix3 1 g 0))
    (L : List (View.Piece (Elt Ideal) S2x8x1 .f32))
    (i1 : ∀ a, (![1, 0, 0] : Fin 3 → Nat) a + S1x8x1.size a ≤ S2x8x1.size a)
    (i0 : ∀ a, (![0, 0, 0] : Fin 3 → Nat) a + S1x8x1.size a ≤ S2x8x1.size a) :
    View.canon ((⟨Rect.unit ![1, 0, 0] S1x8x1.size i1, k0_pay47 (k0_pay39 q1) (k0_pay40 ks1) kc1 m1 l1⟩ :
        View.Piece (Elt Ideal) S2x8x1 .f32)
      :: ⟨Rect.unit ![0, 0, 0] S1x8x1.size i0,
          k0_pay36 (k0_pay31 q0 ks0 kc0) (k0_pay32 m0) (k0_pay33 q0 ks0 kc0 m0) l0⟩ :: L) = stepSum q kc ks m l := by
  refine canon_col _ _ _ _ i1 i0 (fun g => ?_) (fun g => ?_)
  · rw [storedSum1, newMax1]
    simp only [scores1, hq1, hc1, hs1, hm1, hl1]
    rfl
  · rw [storedSum0, newMax0]
    simp only [scores0, hq0, hc0, hs0, hm0, hl0]
    rfl

/-- The weighted sums stored. -/
theorem canonAcc (hq0 : ∀ g d, q0 (ix4 0 0 g d) = q (ix4 0 0 g d)) (hq1 : ∀ g d, q1 (ix4 0 0 g d) = q (ix4 0 1 g d))
    (hc0 : ∀ r d, kc0 (ix4 0 0 r d) = kc (ix4 0 0 r d)) (hc1 : ∀ r d, kc1 (ix4 0 0 r d) = kc (ix4 0 1 r d))
    (hs0 : ∀ r, ks0 (ix3 0 0 r) = ks (ix3 0 0 r)) (hs1 : ∀ r, ks1 (ix3 0 0 r) = ks (ix3 0 1 r))
    (hd0 : ∀ r d, vc0 (ix4 0 0 r d) = vc (ix4 0 0 r d)) (hd1 : ∀ r d, vc1 (ix4 0 0 r d) = vc (ix4 0 1 r d))
    (ht0 : ∀ r, vs0 (ix3 0 0 r) = vs (ix3 0 0 r)) (ht1 : ∀ r, vs1 (ix3 0 0 r) = vs (ix3 0 1 r))
    (hm0 : ∀ g, m0 (ix3 0 g 0) = m (ix3 0 g 0)) (hm1 : ∀ g, m1 (ix3 0 g 0) = m (ix3 1 g 0))
    (ha0 : ∀ g d, a0 (ix3 0 g d) = a (ix3 0 g d)) (ha1 : ∀ g d, a1 (ix3 0 g d) = a (ix3 1 g d))
    (L : List (View.Piece (Elt Ideal) S2x8x128 .f32))
    (i1 : ∀ a, (![1, 0, 0] : Fin 3 → Nat) a + S1x8x128.size a ≤ S2x8x128.size a)
    (i0 : ∀ a, (![0, 0, 0] : Fin 3 → Nat) a + S1x8x128.size a ≤ S2x8x128.size a) :
    View.canon ((⟨Rect.unit ![1, 0, 0] S1x8x128.size i1,
          k0_pay1 (k0_pay41 vs1 vc1) (k0_pay45 (k0_pay39 q1) (k0_pay40 ks1) kc1 m1)
            (k0_pay46 (k0_pay39 q1) (k0_pay40 ks1) kc1 m1) a1⟩ : View.Piece (Elt Ideal) S2x8x128 .f32)
      :: ⟨Rect.unit ![0, 0, 0] S1x8x128.size i0,
          k0_pay37 (k0_pay30 vs0 vc0) (k0_pay31 q0 ks0 kc0) (k0_pay32 m0) (k0_pay33 q0 ks0 kc0 m0) a0⟩ :: L)
      = stepAcc q kc ks vc vs m a := by
  refine canon_row _ _ _ _ i1 i0 (fun g d => ?_) (fun g d => ?_)
  · rw [storedAcc1, newMax1]
    simp only [scores1, values1, hq1, hc1, hs1, hd1, ht1, hm1, ha1]
    rfl
  · rw [storedAcc0, newMax0]
    simp only [scores0, values0, hq0, hc0, hs0, hd0, ht0, hm0, ha0]
    rfl

/-- The output block stored. -/
theorem canonOut (hq0 : ∀ g d, q0 (ix4 0 0 g d) = q (ix4 0 0 g d)) (hq1 : ∀ g d, q1 (ix4 0 0 g d) = q (ix4 0 1 g d))
    (hm0 : ∀ g, m0 (ix3 0 g 0) = m (ix3 0 g 0)) (hm1 : ∀ g, m1 (ix3 0 g 0) = m (ix3 1 g 0))
    (hl0 : ∀ g, l0 (ix3 0 g 0) = l (ix3 0 g 0)) (hl1 : ∀ g, l1 (ix3 0 g 0) = l (ix3 1 g 0))
    (ha0 : ∀ g d, a0 (ix3 0 g d) = a (ix3 0 g d)) (ha1 : ∀ g d, a1 (ix3 0 g d) = a (ix3 1 g d))
    (x y : Vec Ideal S1x2x128 .bf16) (L : List (View.Piece (Elt Ideal) S1x2x8x128 .bf16))
    (i1 : ∀ a, (![0, 1, 0, 0] : Fin 4 → Nat) a + S1x1x8x128.size a ≤ S1x2x8x128.size a)
    (i0 : ∀ a, (![0, 0, 0, 0] : Fin 4 → Nat) a + S1x1x8x128.size a ≤ S1x2x8x128.size a) :
    View.canon ((⟨Rect.unit ![0, 1, 0, 0] S1x1x8x128.size i1,
          k0_pay3 (k0_pay15 (k0_pay8 y) (k0_pay9 y)) (k0_pay25 (k0_pay14 (k0_pay5 x) (k0_pay6 x)) q1 m1)
            (k0_pay26 (k0_pay14 (k0_pay5 x) (k0_pay6 x)) q1 m1) l1 a1⟩ : View.Piece (Elt Ideal) S1x2x8x128 .bf16)
      :: ⟨Rect.unit ![0, 0, 0, 0] S1x1x8x128.size i0,
          k0_pay21 (k0_pay15 (k0_pay8 y) (k0_pay9 y)) (k0_pay19 (k0_pay5 x) (k0_pay6 x) q0 m0)
            (k0_pay20 (k0_pay5 x) (k0_pay6 x) q0 m0) l0 a0⟩ :: L)
      = outBlock q x y m l a := by
  refine canon_out _ _ _ _ i1 i0 (fun g d => ?_) (fun g d => ?_)
  · rw [storedOut1]
    simp only [hq1, hm1, hl1, ha1]
    rfl
  · rw [storedOut0]
    simp only [hq0, hm0, hl0, ha0]
    rfl

end Stores

end Cert.Block

end
-- ==== Proof.Block.lean ====
/- What one grid step leaves in the scratch buffers and, at the last step of a batch, in the output blocks: the update of
   `Step.lean`, whichever of the three control paths the step takes. -/
module

public import proofs.«01_k».proof.Proof.Gen.KernelIdeal.Frame
public import proofs.«01_k».proof.Proof.Store

@[expose] public section

noncomputable section

namespace Cert.Block

open Idealize.ShloMosaic Cert.KernelIdeal Cert.KernelIdeal.Gen Cert.Quant Cert.Payloads Cert.Step
  Idealize.ShloMosaic.TcCoe Idealize.SL.Sem Idealize.ShloMosaic.Tactic

/-- The first step of a batch leaves the updated maxima (from the resets). -/
theorem sout0_A_0 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : cond0_0 i) (hc1 : ¬cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) :
    Gen.sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = stepMax x0 x3 x4 (fun _ => (⊥ : EReal)) := by
  unfold Gen.sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  exact canonMax (loadQ0 harg2 x0 _) (loadQ1 harg2 x0 _) (loadC0 harg5 x3 _) (loadC1 harg5 x3 _) (loadS0 harg6 x4 _) (loadS1 harg6 x4 _)
      (fun g => (covM0 arg14.view _ _ g).trans ((firstM _ _ _).trans (reset_max _)))
      (fun g => (covM1 arg14.view _ _ g).trans ((laterM _ _ _ _ g).trans (reset_max _))) _ _ _

/-- The first step of a batch leaves the updated sums (from the resets). -/
theorem sout0_A_1 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : cond0_0 i) (hc1 : ¬cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) :
    Gen.sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = stepSum x0 x3 x4 (fun _ => (⊥ : EReal)) (fun _ => (0 : EReal)) := by
  unfold Gen.sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  exact canonSum (loadQ0 harg2 x0 _) (loadQ1 harg2 x0 _) (loadC0 harg5 x3 _) (loadC1 harg5 x3 _) (loadS0 harg6 x4 _) (loadS1 harg6 x4 _)
      (fun g => (covM0 arg14.view _ _ g).trans ((firstM _ _ _).trans (reset_max _)))
      (fun g => (covM1 arg14.view _ _ g).trans ((laterM _ _ _ _ g).trans (reset_max _)))
      (fun g => (covM0 arg15.view _ _ g).trans ((firstM _ _ _).trans (reset_sum _)))
      (fun g => (covM1 arg15.view _ _ g).trans ((laterM _ _ _ _ g).trans (reset_sum _))) _ _ _

/-- The first step of a batch leaves the updated weighted sums (from the resets). -/
theorem sout0_A_2 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : cond0_0 i) (hc1 : ¬cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) :
    Gen.sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = stepAcc x0 x3 x4 x5 x6 (fun _ => (⊥ : EReal)) (fun _ => (0 : EReal)) := by
  unfold Gen.sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  exact canonAcc (loadQ0 harg2 x0 _) (loadQ1 harg2 x0 _) (loadC0 harg5 x3 _) (loadC1 harg5 x3 _) (loadS0 harg6 x4 _) (loadS1 harg6 x4 _)
      (loadC0 harg7 x5 _) (loadC1 harg7 x5 _) (loadS0 harg8 x6 _) (loadS1 harg8 x6 _)
      (fun g => (covM0 arg14.view _ _ g).trans ((firstM _ _ _).trans (reset_max _)))
      (fun g => (covM1 arg14.view _ _ g).trans ((laterM _ _ _ _ g).trans (reset_max _)))
      (fun g d => (covA0 arg16.view _ _ g d).trans ((firstA _ _ _).trans (reset_acc _)))
      (fun g d => (covA1 arg16.view _ _ g d).trans ((laterA _ _ _ _ g d).trans (reset_acc _))) _ _ _

/-- A middle step leaves the updated maxima. -/
theorem sout0_B_0 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : ¬cond0_0 i) (hc1 : ¬cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) (xs0 : Vec Ideal S2x8x1 .f32) (xs1 : Vec Ideal S2x8x1 .f32) (xs2 : Vec Ideal S2x8x128 .f32) :
    Gen.sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 = stepMax x0 x3 x4 xs0 := by
  unfold Gen.sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2)]
  unfold kernelRun0_B
  dsimp only
  sl_unfold_words
  exact canonMax (loadQ0 harg2 x0 _) (loadQ1 harg2 x0 _) (loadC0 harg5 x3 _) (loadC1 harg5 x3 _) (loadS0 harg6 x4 _) (loadS1 harg6 x4 _)
      (loadM0 harg14 xs0 _) (loadM1 harg14 xs0 _) _ _ _

/-- A middle step leaves the updated sums. -/
theorem sout0_B_1 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : ¬cond0_0 i) (hc1 : ¬cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) (xs0 : Vec Ideal S2x8x1 .f32) (xs1 : Vec Ideal S2x8x1 .f32) (xs2 : Vec Ideal S2x8x128 .f32) :
    Gen.sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 = stepSum x0 x3 x4 xs0 xs1 := by
  unfold Gen.sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2)]
  unfold kernelRun0_B
  dsimp only
  sl_unfold_words
  exact canonSum (loadQ0 harg2 x0 _) (loadQ1 harg2 x0 _) (loadC0 harg5 x3 _) (loadC1 harg5 x3 _) (loadS0 harg6 x4 _) (loadS1 harg6 x4 _)
      (loadM0 harg14 xs0 _) (loadM1 harg14 xs0 _)
      (loadM0 harg15 xs1 _) (loadM1 harg15 xs1 _) _ _ _

/-- A middle step leaves the updated weighted sums. -/
theorem sout0_B_2 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : ¬cond0_0 i) (hc1 : ¬cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) (xs0 : Vec Ideal S2x8x1 .f32) (xs1 : Vec Ideal S2x8x1 .f32) (xs2 : Vec Ideal S2x8x128 .f32) :
    Gen.sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 = stepAcc x0 x3 x4 x5 x6 xs0 xs2 := by
  unfold Gen.sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2)]
  unfold kernelRun0_B
  dsimp only
  sl_unfold_words
  exact canonAcc (loadQ0 harg2 x0 _) (loadQ1 harg2 x0 _) (loadC0 harg5 x3 _) (loadC1 harg5 x3 _) (loadS0 harg6 x4 _) (loadS1 harg6 x4 _)
      (loadC0 harg7 x5 _) (loadC1 harg7 x5 _) (loadS0 harg8 x6 _) (loadS1 harg8 x6 _)
      (loadM0 harg14 xs0 _) (loadM1 harg14 xs0 _)
      (loadA0 harg16 xs2 _) (loadA1 harg16 xs2 _) _ _ _

/-- The last step of a batch leaves the updated maxima. -/
theorem sout0_C_0 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : ¬cond0_0 i) (hc1 : cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) (xs0 : Vec Ideal S2x8x1 .f32) (xs1 : Vec Ideal S2x8x1 .f32) (xs2 : Vec Ideal S2x8x128 .f32) :
    Gen.sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 = stepMax x0 x3 x4 xs0 := by
  unfold Gen.sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2)]
  unfold kernelRun0_C
  dsimp only
  sl_unfold_words
  exact canonMax (loadQ0 harg2 x0 _) (loadQ1 harg2 x0 _) (loadC0 harg5 x3 _) (loadC1 harg5 x3 _) (loadS0 harg6 x4 _) (loadS1 harg6 x4 _)
      (loadM0 harg14 xs0 _) (loadM1 harg14 xs0 _) _ _ _

/-- The last step of a batch leaves the updated sums. -/
theorem sout0_C_1 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : ¬cond0_0 i) (hc1 : cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) (xs0 : Vec Ideal S2x8x1 .f32) (xs1 : Vec Ideal S2x8x1 .f32) (xs2 : Vec Ideal S2x8x128 .f32) :
    Gen.sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 = stepSum x0 x3 x4 xs0 xs1 := by
  unfold Gen.sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2)]
  unfold kernelRun0_C
  dsimp only
  sl_unfold_words
  exact canonSum (loadQ0 harg2 x0 _) (loadQ1 harg2 x0 _) (loadC0 harg5 x3 _) (loadC1 harg5 x3 _) (loadS0 harg6 x4 _) (loadS1 harg6 x4 _)
      (loadM0 harg14 xs0 _) (loadM1 harg14 xs0 _)
      (loadM0 harg15 xs1 _) (loadM1 harg15 xs1 _) _ _ _

/-- The last step of a batch leaves the updated weighted sums. -/
theorem sout0_C_2 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : ¬cond0_0 i) (hc1 : cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) (xs0 : Vec Ideal S2x8x1 .f32) (xs1 : Vec Ideal S2x8x1 .f32) (xs2 : Vec Ideal S2x8x128 .f32) :
    Gen.sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 = stepAcc x0 x3 x4 x5 x6 xs0 xs2 := by
  unfold Gen.sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2)]
  unfold kernelRun0_C
  dsimp only
  sl_unfold_words
  exact canonAcc (loadQ0 harg2 x0 _) (loadQ1 harg2 x0 _) (loadC0 harg5 x3 _) (loadC1 harg5 x3 _) (loadS0 harg6 x4 _) (loadS1 harg6 x4 _)
      (loadC0 harg7 x5 _) (loadC1 harg7 x5 _) (loadS0 harg8 x6 _) (loadS1 harg8 x6 _)
      (loadM0 harg14 xs0 _) (loadM1 harg14 xs0 _)
      (loadA0 harg16 xs2 _) (loadA1 harg16 xs2 _) _ _ _

/-- The last step of a batch stores the output block of the updated scratch. -/
theorem out0_C_7 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : ¬cond0_0 i) (hc1 : cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) (xs0 : Vec Ideal S2x8x1 .f32) (xs1 : Vec Ideal S2x8x1 .f32) (xs2 : Vec Ideal S2x8x128 .f32) :
    Gen.out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2
      = outBlock x0 x1 x2 (stepMax x0 x3 x4 xs0) (stepSum x0 x3 x4 xs0 xs1) (stepAcc x0 x3 x4 x5 x6 xs0 xs2) := by
  unfold Gen.out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2)]
  unfold kernelRun0_C
  dsimp only
  sl_unfold_words
  rw [loadX harg3 x1, loadX harg4 x2]
  exact canonOut (loadQ0 harg2 x0 _) (loadQ1 harg2 x0 _)
      (fun g => (covM0 arg14.view _ _ g).trans (congrFun (canonMax (loadQ0 harg2 x0 _) (loadQ1 harg2 x0 _) (loadC0 harg5 x3 _) (loadC1 harg5 x3 _) (loadS0 harg6 x4 _) (loadS1 harg6 x4 _)
      (loadM0 harg14 xs0 _) (loadM1 harg14 xs0 _) _ _ _) _))
      (fun g => (covM1 arg14.view _ _ g).trans (congrFun (canonMax (loadQ0 harg2 x0 _) (loadQ1 harg2 x0 _) (loadC0 harg5 x3 _) (loadC1 harg5 x3 _) (loadS0 harg6 x4 _) (loadS1 harg6 x4 _)
      (loadM0 harg14 xs0 _) (loadM1 harg14 xs0 _) _ _ _) _))
      (fun g => (covM0 arg15.view _ _ g).trans (congrFun (canonSum (loadQ0 harg2 x0 _) (loadQ1 harg2 x0 _) (loadC0 harg5 x3 _) (loadC1 harg5 x3 _) (loadS0 harg6 x4 _) (loadS1 harg6 x4 _)
      (loadM0 harg14 xs0 _) (loadM1 harg14 xs0 _)
      (loadM0 harg15 xs1 _) (loadM1 harg15 xs1 _) _ _ _) _))
      (fun g => (covM1 arg15.view _ _ g).trans (congrFun (canonSum (loadQ0 harg2 x0 _) (loadQ1 harg2 x0 _) (loadC0 harg5 x3 _) (loadC1 harg5 x3 _) (loadS0 harg6 x4 _) (loadS1 harg6 x4 _)
      (loadM0 harg14 xs0 _) (loadM1 harg14 xs0 _)
      (loadM0 harg15 xs1 _) (loadM1 harg15 xs1 _) _ _ _) _))
      (fun g d => (covA0 arg16.view _ _ g d).trans (congrFun (canonAcc (loadQ0 harg2 x0 _) (loadQ1 harg2 x0 _) (loadC0 harg5 x3 _) (loadC1 harg5 x3 _) (loadS0 harg6 x4 _) (loadS1 harg6 x4 _)
      (loadC0 harg7 x5 _) (loadC1 harg7 x5 _) (loadS0 harg8 x6 _) (loadS1 harg8 x6 _)
      (loadM0 harg14 xs0 _) (loadM1 harg14 xs0 _)
      (loadA0 harg16 xs2 _) (loadA1 harg16 xs2 _) _ _ _) _))
      (fun g d => (covA1 arg16.view _ _ g d).trans (congrFun (canonAcc (loadQ0 harg2 x0 _) (loadQ1 harg2 x0 _) (loadC0 harg5 x3 _) (loadC1 harg5 x3 _) (loadS0 harg6 x4 _) (loadS1 harg6 x4 _)
      (loadC0 harg7 x5 _) (loadC1 harg7 x5 _) (loadS0 harg8 x6 _) (loadS1 harg8 x6 _)
      (loadM0 harg14 xs0 _) (loadM1 harg14 xs0 _)
      (loadA0 harg16 xs2 _) (loadA1 harg16 xs2 _) _ _ _) _)) x1 x2 _ _ _

/-- The last step of a batch stores the new key codes. -/
theorem out0_C_8 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : ¬cond0_0 i) (hc1 : cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) (xs0 : Vec Ideal S2x8x1 .f32) (xs1 : Vec Ideal S2x8x1 .f32) (xs2 : Vec Ideal S2x8x128 .f32) :
    Gen.out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 = fun j => qcode (fun d => x1 (ix3 0 (j 1) d)) (j 2) := by
  unfold Gen.out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2)]
  unfold kernelRun0_C
  dsimp only
  sl_unfold_words
  rw [loadX harg3 x1]
  rw [View.canon_cons_unit_zero (by decide)]
  funext j
  obtain ⟨z, k, d, rfl⟩ : ∃ z k d, j = ix3 z k d := ⟨_, _, _, eq_ix3 j⟩
  obtain rfl : z = 0 := Subsingleton.elim _ _
  exact storedKeyCode x1 k d

/-- The last step of a batch stores the new key scales. -/
theorem out0_C_9 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : ¬cond0_0 i) (hc1 : cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) (xs0 : Vec Ideal S2x8x1 .f32) (xs1 : Vec Ideal S2x8x1 .f32) (xs2 : Vec Ideal S2x8x128 .f32) :
    Gen.out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 = fun j => qscale fun d => x1 (ix3 0 (j 1) d) := by
  unfold Gen.out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2)]
  unfold kernelRun0_C
  dsimp only
  sl_unfold_words
  rw [loadX harg3 x1]
  rw [View.canon_cons_unit_zero (by decide)]
  funext j
  obtain ⟨z, k, d, rfl⟩ : ∃ z k d, j = ix3 z k d := ⟨_, _, _, eq_ix3 j⟩
  obtain rfl : z = 0 := Subsingleton.elim _ _
  obtain rfl : d = 0 := Subsingleton.elim _ _
  exact storedKeyScale x1 k

/-- The last step of a batch stores the new value codes. -/
theorem out0_C_10 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : ¬cond0_0 i) (hc1 : cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) (xs0 : Vec Ideal S2x8x1 .f32) (xs1 : Vec Ideal S2x8x1 .f32) (xs2 : Vec Ideal S2x8x128 .f32) :
    Gen.out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 = fun j => qcode (fun d => x2 (ix3 0 (j 1) d)) (j 2) := by
  unfold Gen.out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2)]
  unfold kernelRun0_C
  dsimp only
  sl_unfold_words
  rw [loadX harg4 x2]
  rw [View.canon_cons_unit_zero (by decide)]
  funext j
  obtain ⟨z, k, d, rfl⟩ : ∃ z k d, j = ix3 z k d := ⟨_, _, _, eq_ix3 j⟩
  obtain rfl : z = 0 := Subsingleton.elim _ _
  exact storedValueCode x2 k d

/-- The last step of a batch stores the new value scales. -/
theorem out0_C_11 (c : Dev nD) (i : grid0.Coords) (arg2 : Memref sig .tc .vmem S1x2x8x128 .bf16) (harg2 : arg2.IsWhole) (arg3 : Memref sig .tc .vmem S1x2x128 .bf16) (harg3 : arg3.IsWhole) (arg4 : Memref sig .tc .vmem S1x2x128 .bf16) (harg4 : arg4.IsWhole) (arg5 : Memref sig .tc .vmem S1x2x2048x128 .i8) (harg5 : arg5.IsWhole) (arg6 : Memref sig .tc .vmem S1x2x2048 .f32) (harg6 : arg6.IsWhole) (arg7 : Memref sig .tc .vmem S1x2x2048x128 .i8) (harg7 : arg7.IsWhole) (arg8 : Memref sig .tc .vmem S1x2x2048 .f32) (harg8 : arg8.IsWhole) (arg9 : Memref sig .tc .vmem S1x2x8x128 .bf16) (harg9 : arg9.IsWhole) (arg10 : Memref sig .tc .vmem S1x2x128 .i8) (harg10 : arg10.IsWhole) (arg11 : Memref sig .tc .vmem S1x2x1 .f32) (harg11 : arg11.IsWhole) (arg12 : Memref sig .tc .vmem S1x2x128 .i8) (harg12 : arg12.IsWhole) (arg13 : Memref sig .tc .vmem S1x2x1 .f32) (harg13 : arg13.IsWhole) (arg14 : Memref sig .tc .vmem S2x8x1 .f32) (harg14 : arg14.IsWhole) (arg15 : Memref sig .tc .vmem S2x8x1 .f32) (harg15 : arg15.IsWhole) (arg16 : Memref sig .tc .vmem S2x8x128 .f32) (harg16 : arg16.IsWhole) (hc0 : ¬cond0_0 i) (hc1 : cond0_1 i)
(x0 : Vec Ideal S1x2x8x128 .bf16) (x1 : Vec Ideal S1x2x128 .bf16) (x2 : Vec Ideal S1x2x128 .bf16) (x3 : Vec Ideal S1x2x2048x128 .i8) (x4 : Vec Ideal S1x2x2048 .f32) (x5 : Vec Ideal S1x2x2048x128 .i8) (x6 : Vec Ideal S1x2x2048 .f32) (xs0 : Vec Ideal S2x8x1 .f32) (xs1 : Vec Ideal S2x8x1 .f32) (xs2 : Vec Ideal S2x8x128 .f32) :
    Gen.out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2 = fun j => qscale fun d => x2 (ix3 0 (j 1) d) := by
  unfold Gen.out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2)]
  unfold kernelRun0_C
  dsimp only
  sl_unfold_words
  rw [loadX harg4 x2]
  rw [View.canon_cons_unit_zero (by decide)]
  funext j
  obtain ⟨z, k, d, rfl⟩ : ∃ z k d, j = ix3 z k d := ⟨_, _, _, eq_ix3 j⟩
  obtain rfl : z = 0 := Subsingleton.elim _ _
  obtain rfl : d = 0 := Subsingleton.elim _ _
  exact storedValueScale x2 k

end Cert.Block

end
-- ==== Proof.Window.lean ====
/- The blocks the kernel reads, as elements of the arguments: step `t` works on batch row `t / 8`, tokens
   `2048 * (t % 8)` onward. -/
module

public import proofs.«01_k».proof.Proof.Gen.KernelIdeal.Frame
public import Idealize.ShloMosaic.Lib.Pointwise
public import Idealize.ShloMosaic.Lib.Pipeline.Value

@[expose] public section

noncomputable section

namespace Cert.Window

open Idealize.ShloMosaic Cert.KernelIdeal Cert.KernelIdeal.Gen
  Idealize.ShloMosaic.TcCoe Idealize.SL.Sem Idealize.ShloMosaic.Tactic

variable (m : (ℓ : Loc nD τ sig) → Buf (Elt Ideal) ℓ)

/-! ### The arguments -/

/-- The packed queries. -/
abbrev qArg (c : Dev nD) : Vec Ideal S128x1x2048 .bf16 := m ((c : Thread nD τ).loc main_arg0)
/-- The new keys. -/
abbrev knArg (c : Dev nD) : Vec Ideal S128x1x2x128 .bf16 := m ((c : Thread nD τ).loc main_arg1)
/-- The new values. -/
abbrev vnArg (c : Dev nD) : Vec Ideal S128x1x2x128 .bf16 := m ((c : Thread nD τ).loc main_arg2)
/-- The cached keys' codes. -/
abbrev kcArg (c : Dev nD) : Vec Ideal S128x16384x2x128 .i8 := m ((c : Thread nD τ).loc main_arg3)
/-- The cached keys' scales. -/
abbrev ksArg (c : Dev nD) : Vec Ideal S128x16384x2 .f32 := m ((c : Thread nD τ).loc main_arg4)
/-- The cached values' codes. -/
abbrev vcArg (c : Dev nD) : Vec Ideal S128x16384x2x128 .i8 := m ((c : Thread nD τ).loc main_arg5)
/-- The cached values' scales. -/
abbrev vsArg (c : Dev nD) : Vec Ideal S128x16384x2 .f32 := m ((c : Thread nD τ).loc main_arg6)

/-- The place of kv head `k`, query head `g`, element `d` in a packed query row. -/
abbrev qPos (k : Fin 2) (g : Fin 8) (d : Fin 128) : Fin 2048 := ⟨(k.val * 8 + g.val) * 128 + d.val, by omega⟩

/-! ### What the host operations before the kernel leave -/

/-- The queries, split by head. -/
theorem V_v0 (c : Dev nD) (b : Fin 128) (k : Fin 2) (g : Fin 8) (d : Fin 128) :
    (V m c main_v0 : Vec Ideal S128x2x8x128 .bf16) (ix4 b k g d) = qArg m c (ix3 b 0 (qPos k g d)) := by
  have e : (V m c main_v0 : Vec Ideal S128x2x8x128 .bf16)
      = shapeCast _ (qArg m c) shapeCasts_S128x1x2048_S128x2x8x128 := by
    show StableHlo.after hostOps0 _ (Proc.devRef .tc main_v0) = _
    after_results
    rfl
  rw [e]
  refine shapeCast_apply _ _ _ (ix3 b 0 (qPos k g d)) ?_
  rewrite [Shape.rowMajor_val_three, Shape.rowMajor_val_four]
  show (b.val * 1 + 0) * 2048 + ((k.val * 8 + g.val) * 128 + d.val) = ((b.val * 2 + k.val) * 8 + g.val) * 128 + d.val
  omega

/-- The new keys, without the unit axis. -/
theorem V_v1 (c : Dev nD) (b : Fin 128) (k : Fin 2) (d : Fin 128) :
    (V m c main_v1 : Vec Ideal S128x2x128 .bf16) (ix3 b k d) = knArg m c (ix4 b 0 k d) := by
  have e : (V m c main_v1 : Vec Ideal S128x2x128 .bf16)
      = shapeCast _ (knArg m c) shapeCasts_S128x1x2x128_S128x2x128 := by
    show StableHlo.after hostOps0 _ (Proc.devRef .tc main_v1) = _
    after_results
    rfl
  rw [e]
  refine shapeCast_apply _ _ _ (ix4 b 0 k d) ?_
  rewrite [Shape.rowMajor_val_three, Shape.rowMajor_val_four]
  show ((b.val * 1 + 0) * 2 + k.val) * 128 + d.val = (b.val * 2 + k.val) * 128 + d.val
  omega

/-- The new values, without the unit axis. -/
theorem V_v2 (c : Dev nD) (b : Fin 128) (k : Fin 2) (d : Fin 128) :
    (V m c main_v2 : Vec Ideal S128x2x128 .bf16) (ix3 b k d) = vnArg m c (ix4 b 0 k d) := by
  have e : (V m c main_v2 : Vec Ideal S128x2x128 .bf16)
      = shapeCast _ (vnArg m c) shapeCasts_S128x1x2x128_S128x2x128 := by
    show StableHlo.after hostOps0 _ (Proc.devRef .tc main_v2) = _
    after_results
    rfl
  rw [e]
  refine shapeCast_apply _ _ _ (ix4 b 0 k d) ?_
  rewrite [Shape.rowMajor_val_three, Shape.rowMajor_val_four]
  show ((b.val * 1 + 0) * 2 + k.val) * 128 + d.val = (b.val * 2 + k.val) * 128 + d.val
  omega

/-- The cached keys' codes, kv head first. -/
theorem V_v3 (c : Dev nD) (b : Fin 128) (k : Fin 2) (t : Fin 16384) (d : Fin 128) :
    (V m c main_v3 : Vec Ideal S128x2x16384x128 .i8) (ix4 b k t d) = kcArg m c (ix4 b t k d) := by
  have e : (V m c main_v3 : Vec Ideal S128x2x16384x128 .i8)
      = transpose S128x2x16384x128 [0, 2, 1, 3] (kcArg m c) transposes_S128x16384x2x128_S128x2x16384x128_0_2_1_3 := by
    show StableHlo.after hostOps0 _ (Proc.devRef .tc main_v3) = _
    after_results
  rw [e]
  pointwise

/-- The cached values' codes, kv head first. -/
theorem V_v4 (c : Dev nD) (b : Fin 128) (k : Fin 2) (t : Fin 16384) (d : Fin 128) :
    (V m c main_v4 : Vec Ideal S128x2x16384x128 .i8) (ix4 b k t d) = vcArg m c (ix4 b t k d) := by
  have e : (V m c main_v4 : Vec Ideal S128x2x16384x128 .i8)
      = transpose S128x2x16384x128 [0, 2, 1, 3] (vcArg m c) transposes_S128x16384x2x128_S128x2x16384x128_0_2_1_3 := by
    show StableHlo.after hostOps0 _ (Proc.devRef .tc main_v4) = _
    after_results
  rw [e]
  pointwise

/-- The cached keys' scales, kv head first. -/
theorem V_v5 (c : Dev nD) (b : Fin 128) (k : Fin 2) (t : Fin 16384) :
    (V m c main_v5 : Vec Ideal S128x2x16384 .f32) (ix3 b k t) = ksArg m c (ix3 b t k) := by
  have e : (V m c main_v5 : Vec Ideal S128x2x16384 .f32)
      = transpose S128x2x16384 [0, 2, 1] (ksArg m c) transposes_S128x16384x2_S128x2x16384_0_2_1 := by
    show StableHlo.after hostOps0 _ (Proc.devRef .tc main_v5) = _
    after_results
  rw [e]
  pointwise

/-- The cached values' scales, kv head first. -/
theorem V_v6 (c : Dev nD) (b : Fin 128) (k : Fin 2) (t : Fin 16384) :
    (V m c main_v6 : Vec Ideal S128x2x16384 .f32) (ix3 b k t) = vsArg m c (ix3 b t k) := by
  have e : (V m c main_v6 : Vec Ideal S128x2x16384 .f32)
      = transpose S128x2x16384 [0, 2, 1] (vsArg m c) transposes_S128x16384x2_S128x2x16384_0_2_1 := by
    show StableHlo.after hostOps0 _ (Proc.devRef .tc main_v6) = _
    after_results
  rw [e]
  pointwise

/-! ### The blocks -/

/-- The batch row of a step. -/
abbrev rowOf (t : Fin cfg0.N) : Fin 128 :=
  ⟨t.val / 8, by have := lt_of_lt_of_eq t.isLt (show cfg0.N = 1024 from N_0); omega⟩

/-- The token a step's block holds at place `r`. -/
abbrev tokOf (t : Fin cfg0.N) (r : Fin 2048) : Fin 16384 := ⟨2048 * (t.val % 8) + r.val, by omega⟩

/-- The queries of a step. -/
theorem blk0 (c : Dev nD) (t : Fin cfg0.N) (k : Fin 2) (g : Fin 8) (d : Fin 128) :
    (iblk m c 0 t : Vec Ideal S1x2x8x128 .bf16) (ix4 0 k g d) = qArg m c (ix3 (rowOf t) 0 (qPos k g d)) := by
  have hi : win0_0.index t (0 : Fin 4) = t.val / 8 ∧ win0_0.index t (1 : Fin 4) = 0 ∧ win0_0.index t (2 : Fin 4) = 0 ∧ win0_0.index t (3 : Fin 4) = 0 :=
    (by decide +kernel : ∀ t : Fin grid0.N, win0_0.index t (0 : Fin 4) = t.val / 8 ∧ win0_0.index t (1 : Fin 4) = 0 ∧ win0_0.index t (2 : Fin 4) = 0 ∧ win0_0.index t (3 : Fin 4) = 0) t
  obtain ⟨h0, h1, h2, h3⟩ := hi
  rw [← V_v0]
  unfold iblk
  rw [View.read_apply]
  show (V m c main_v0 : Vec Ideal S128x2x8x128 .bf16) _ = (V m c main_v0 : Vec Ideal S128x2x8x128 .bf16) _
  congr 1
  funext a
  apply Fin.ext
  match a with
  | ⟨0, _⟩ => show win0_0.index t (0 : Fin 4) * 1 + 1 * (0 : Fin 1).val = t.val / 8; rw [h0]; simp
  | ⟨1, _⟩ => show win0_0.index t (1 : Fin 4) * 2 + 1 * k.val = k.val; rw [h1]; omega
  | ⟨2, _⟩ => show win0_0.index t (2 : Fin 4) * 8 + 1 * g.val = g.val; rw [h2]; omega
  | ⟨3, _⟩ => show win0_0.index t (3 : Fin 4) * 128 + 1 * d.val = d.val; rw [h3]; omega

/-- The new key of a step. -/
theorem blk1 (c : Dev nD) (t : Fin cfg0.N) (k : Fin 2) (d : Fin 128) :
    (iblk m c 1 t : Vec Ideal S1x2x128 .bf16) (ix3 0 k d) = knArg m c (ix4 (rowOf t) 0 k d) := by
  have hi : win0_1.index t (0 : Fin 3) = t.val / 8 ∧ win0_1.index t (1 : Fin 3) = 0 ∧ win0_1.index t (2 : Fin 3) = 0 :=
    (by decide +kernel : ∀ t : Fin grid0.N, win0_1.index t (0 : Fin 3) = t.val / 8 ∧ win0_1.index t (1 : Fin 3) = 0 ∧ win0_1.index t (2 : Fin 3) = 0) t
  obtain ⟨h0, h1, h2⟩ := hi
  rw [← V_v1]
  unfold iblk
  rw [View.read_apply]
  show (V m c main_v1 : Vec Ideal S128x2x128 .bf16) _ = (V m c main_v1 : Vec Ideal S128x2x128 .bf16) _
  congr 1
  funext a
  apply Fin.ext
  match a with
  | ⟨0, _⟩ => show win0_1.index t (0 : Fin 3) * 1 + 1 * (0 : Fin 1).val = t.val / 8; rw [h0]; simp
  | ⟨1, _⟩ => show win0_1.index t (1 : Fin 3) * 2 + 1 * k.val = k.val; rw [h1]; omega
  | ⟨2, _⟩ => show win0_1.index t (2 : Fin 3) * 128 + 1 * d.val = d.val; rw [h2]; omega

/-- The new value of a step. -/
theorem blk2 (c : Dev nD) (t : Fin cfg0.N) (k : Fin 2) (d : Fin 128) :
    (iblk m c 2 t : Vec Ideal S1x2x128 .bf16) (ix3 0 k d) = vnArg m c (ix4 (rowOf t) 0 k d) := by
  have hi : win0_2.index t (0 : Fin 3) = t.val / 8 ∧ win0_2.index t (1 : Fin 3) = 0 ∧ win0_2.index t (2 : Fin 3) = 0 :=
    (by decide +kernel : ∀ t : Fin grid0.N, win0_2.index t (0 : Fin 3) = t.val / 8 ∧ win0_2.index t (1 : Fin 3) = 0 ∧ win0_2.index t (2 : Fin 3) = 0) t
  obtain ⟨h0, h1, h2⟩ := hi
  rw [← V_v2]
  unfold iblk
  rw [View.read_apply]
  show (V m c main_v2 : Vec Ideal S128x2x128 .bf16) _ = (V m c main_v2 : Vec Ideal S128x2x128 .bf16) _
  congr 1
  funext a
  apply Fin.ext
  match a with
  | ⟨0, _⟩ => show win0_2.index t (0 : Fin 3) * 1 + 1 * (0 : Fin 1).val = t.val / 8; rw [h0]; simp
  | ⟨1, _⟩ => show win0_2.index t (1 : Fin 3) * 2 + 1 * k.val = k.val; rw [h1]; omega
  | ⟨2, _⟩ => show win0_2.index t (2 : Fin 3) * 128 + 1 * d.val = d.val; rw [h2]; omega

/-- The cached keys' codes of a step. -/
theorem blk3 (c : Dev nD) (t : Fin cfg0.N) (k : Fin 2) (r : Fin 2048) (d : Fin 128) :
    (iblk m c 3 t : Vec Ideal S1x2x2048x128 .i8) (ix4 0 k r d) = kcArg m c (ix4 (rowOf t) (tokOf t r) k d) := by
  have hi : win0_3.index t (0 : Fin 4) = t.val / 8 ∧ win0_3.index t (1 : Fin 4) = 0 ∧ win0_3.index t (2 : Fin 4) = t.val % 8 ∧ win0_3.index t (3 : Fin 4) = 0 :=
    (by decide +kernel : ∀ t : Fin grid0.N, win0_3.index t (0 : Fin 4) = t.val / 8 ∧ win0_3.index t (1 : Fin 4) = 0 ∧ win0_3.index t (2 : Fin 4) = t.val % 8 ∧ win0_3.index t (3 : Fin 4) = 0) t
  obtain ⟨h0, h1, h2, h3⟩ := hi
  rw [← V_v3]
  unfold iblk
  rw [View.read_apply]
  show (V m c main_v3 : Vec Ideal S128x2x16384x128 .i8) _ = (V m c main_v3 : Vec Ideal S128x2x16384x128 .i8) _
  congr 1
  funext a
  apply Fin.ext
  match a with
  | ⟨0, _⟩ => show win0_3.index t (0 : Fin 4) * 1 + 1 * (0 : Fin 1).val = t.val / 8; rw [h0]; simp
  | ⟨1, _⟩ => show win0_3.index t (1 : Fin 4) * 2 + 1 * k.val = k.val; rw [h1]; omega
  | ⟨2, _⟩ => show win0_3.index t (2 : Fin 4) * 2048 + 1 * r.val = 2048 * (t.val % 8) + r.val; rw [h2]; omega
  | ⟨3, _⟩ => show win0_3.index t (3 : Fin 4) * 128 + 1 * d.val = d.val; rw [h3]; omega

/-- The cached keys' scales of a step. -/
theorem blk4 (c : Dev nD) (t : Fin cfg0.N) (k : Fin 2) (r : Fin 2048) :
    (iblk m c 4 t : Vec Ideal S1x2x2048 .f32) (ix3 0 k r) = ksArg m c (ix3 (rowOf t) (tokOf t r) k) := by
  have hi : win0_4.index t (0 : Fin 3) = t.val / 8 ∧ win0_4.index t (1 : Fin 3) = 0 ∧ win0_4.index t (2 : Fin 3) = t.val % 8 :=
    (by decide +kernel : ∀ t : Fin grid0.N, win0_4.index t (0 : Fin 3) = t.val / 8 ∧ win0_4.index t (1 : Fin 3) = 0 ∧ win0_4.index t (2 : Fin 3) = t.val % 8) t
  obtain ⟨h0, h1, h2⟩ := hi
  rw [← V_v5]
  unfold iblk
  rw [View.read_apply]
  show (V m c main_v5 : Vec Ideal S128x2x16384 .f32) _ = (V m c main_v5 : Vec Ideal S128x2x16384 .f32) _
  congr 1
  funext a
  apply Fin.ext
  match a with
  | ⟨0, _⟩ => show win0_4.index t (0 : Fin 3) * 1 + 1 * (0 : Fin 1).val = t.val / 8; rw [h0]; simp
  | ⟨1, _⟩ => show win0_4.index t (1 : Fin 3) * 2 + 1 * k.val = k.val; rw [h1]; omega
  | ⟨2, _⟩ => show win0_4.index t (2 : Fin 3) * 2048 + 1 * r.val = 2048 * (t.val % 8) + r.val; rw [h2]; omega

/-- The cached values' codes of a step. -/
theorem blk5 (c : Dev nD) (t : Fin cfg0.N) (k : Fin 2) (r : Fin 2048) (d : Fin 128) :
    (iblk m c 5 t : Vec Ideal S1x2x2048x128 .i8) (ix4 0 k r d) = vcArg m c (ix4 (rowOf t) (tokOf t r) k d) := by
  have hi : win0_5.index t (0 : Fin 4) = t.val / 8 ∧ win0_5.index t (1 : Fin 4) = 0 ∧ win0_5.index t (2 : Fin 4) = t.val % 8 ∧ win0_5.index t (3 : Fin 4) = 0 :=
    (by decide +kernel : ∀ t : Fin grid0.N, win0_5.index t (0 : Fin 4) = t.val / 8 ∧ win0_5.index t (1 : Fin 4) = 0 ∧ win0_5.index t (2 : Fin 4) = t.val % 8 ∧ win0_5.index t (3 : Fin 4) = 0) t
  obtain ⟨h0, h1, h2, h3⟩ := hi
  rw [← V_v4]
  unfold iblk
  rw [View.read_apply]
  show (V m c main_v4 : Vec Ideal S128x2x16384x128 .i8) _ = (V m c main_v4 : Vec Ideal S128x2x16384x128 .i8) _
  congr 1
  funext a
  apply Fin.ext
  match a with
  | ⟨0, _⟩ => show win0_5.index t (0 : Fin 4) * 1 + 1 * (0 : Fin 1).val = t.val / 8; rw [h0]; simp
  | ⟨1, _⟩ => show win0_5.index t (1 : Fin 4) * 2 + 1 * k.val = k.val; rw [h1]; omega
  | ⟨2, _⟩ => show win0_5.index t (2 : Fin 4) * 2048 + 1 * r.val = 2048 * (t.val % 8) + r.val; rw [h2]; omega
  | ⟨3, _⟩ => show win0_5.index t (3 : Fin 4) * 128 + 1 * d.val = d.val; rw [h3]; omega

/-- The cached values' scales of a step. -/
theorem blk6 (c : Dev nD) (t : Fin cfg0.N) (k : Fin 2) (r : Fin 2048) :
    (iblk m c 6 t : Vec Ideal S1x2x2048 .f32) (ix3 0 k r) = vsArg m c (ix3 (rowOf t) (tokOf t r) k) := by
  have hi : win0_6.index t (0 : Fin 3) = t.val / 8 ∧ win0_6.index t (1 : Fin 3) = 0 ∧ win0_6.index t (2 : Fin 3) = t.val % 8 :=
    (by decide +kernel : ∀ t : Fin grid0.N, win0_6.index t (0 : Fin 3) = t.val / 8 ∧ win0_6.index t (1 : Fin 3) = 0 ∧ win0_6.index t (2 : Fin 3) = t.val % 8) t
  obtain ⟨h0, h1, h2⟩ := hi
  rw [← V_v6]
  unfold iblk
  rw [View.read_apply]
  show (V m c main_v6 : Vec Ideal S128x2x16384 .f32) _ = (V m c main_v6 : Vec Ideal S128x2x16384 .f32) _
  congr 1
  funext a
  apply Fin.ext
  match a with
  | ⟨0, _⟩ => show win0_6.index t (0 : Fin 3) * 1 + 1 * (0 : Fin 1).val = t.val / 8; rw [h0]; simp
  | ⟨1, _⟩ => show win0_6.index t (1 : Fin 3) * 2 + 1 * k.val = k.val; rw [h1]; omega
  | ⟨2, _⟩ => show win0_6.index t (2 : Fin 3) * 2048 + 1 * r.val = 2048 * (t.val % 8) + r.val; rw [h2]; omega

end Cert.Window

end
-- ==== Proof.Fold.lean ====
/- What the kernel leaves: after the steps of a batch row, the scratch holds the maximum, the sum and the weighted sum over
   all the tokens so far, and the last step stores the outputs from them. -/
module

public import proofs.«01_k».proof.Proof.Gen.KernelIdeal.Value
public import proofs.«01_k».proof.Proof.Softmax
public import proofs.«01_k».proof.Proof.Block
public import proofs.«01_k».proof.Proof.Window

@[expose] public section

noncomputable section

namespace Cert.Fold

open Idealize.ShloMosaic Cert.KernelIdeal Cert.KernelIdeal.Gen Cert.KernelIdeal.Value Cert.Quant Cert.Step Cert.Window
  Cert.Softmax Idealize.ShloMosaic.TcCoe Idealize.SL.Sem Idealize.ShloMosaic.Tactic

variable (m : (ℓ : Loc nD τ sig) → Buf (Elt Ideal) ℓ)

/-! ### Scores and values along the whole cache -/

/-- A natural number as a token. -/
abbrev tok (t : ℕ) : Fin 16384 := ⟨t % 16384, Nat.mod_lt _ (by decide)⟩

/-- The score of token `t` (batch row `b`, kv head `k`, query head `g`). -/
def sc (c : Dev nD) (b : Fin 128) (k : Fin 2) (g : Fin 8) (t : ℕ) : EReal :=
  score (fun d => qArg m c (ix3 b 0 (qPos k g d)))
    (fun d => deq (kcArg m c (ix4 b (tok t) k d)) (ksArg m c (ix3 b (tok t) k)))

/-- The value of token `t` at column `d`. -/
def vl (c : Dev nD) (b : Fin 128) (k : Fin 2) (d : Fin 128) (t : ℕ) : EReal :=
  deq (vcArg m c (ix4 b (tok t) k d)) (vsArg m c (ix3 b (tok t) k))

theorem tok_block (t : Fin cfg0.N) (r : Fin 2048) : tok (2048 * (t.val % 8) + r.val) = tokOf t r :=
  Fin.ext (Nat.mod_eq_of_lt (tokOf t r).isLt)

/-- A block's scores are a stretch of the cache's. -/
theorem blkScore_eq (c : Dev nD) (t : Fin cfg0.N) (k : Fin 2) (g : Fin 8) :
    blkScore (iblk m c 0 t) (iblk m c 3 t) (iblk m c 4 t) k g
      = fun r => sc m c (rowOf t) k g (2048 * (t.val % 8) + r.val) := by
  funext r
  unfold blkScore sc
  simp only [blk0, blk3, blk4, tok_block]

/-- A block's values are a stretch of the cache's. -/
theorem blkValue_eq (c : Dev nD) (t : Fin cfg0.N) (k : Fin 2) (d : Fin 128) :
    blkValue (iblk m c 5 t) (iblk m c 6 t) k d = fun r => vl m c (rowOf t) k d (2048 * (t.val % 8) + r.val) := by
  funext r
  unfold blkValue vl
  rw [blk5, blk6, tok_block]

/-! ### The scratch after each step -/

/-- The scratch holds the maxima, sums and weighted sums over the first `n` tokens of batch row `b`. -/
def Held (c : Dev nD) (M L : Vec Ideal S2x8x1 .f32) (A : Vec Ideal S2x8x128 .f32) (b : Fin 128) (n : ℕ) : Prop :=
  ∀ (k : Fin 2) (g : Fin 8),
    M (ix3 k g 0) = top (sc m c b k g) n
    ∧ L (ix3 k g 0) = tot (sc m c b k g) n (top (sc m c b k g) n)
    ∧ ∀ d : Fin 128, A (ix3 k g d) = wgt (sc m c b k g) (vl m c b k d) n (top (sc m c b k g) n)

/-- Before the first token: the resets. -/
theorem held_zero (c : Dev nD) (b : Fin 128) :
    Held m c (fun _ => (⊥ : EReal)) (fun _ => (0 : EReal)) (fun _ => (0 : EReal)) b 0 := fun k g => by
  simp

/-- A block's update extends what the scratch holds by the block's tokens. -/
theorem held_step (c : Dev nD) (t : Fin cfg0.N) (M L : Vec Ideal S2x8x1 .f32) (A : Vec Ideal S2x8x128 .f32)
    (h : Held m c M L A (rowOf t) (2048 * (t.val % 8))) :
    Held m c (stepMax (iblk m c 0 t) (iblk m c 3 t) (iblk m c 4 t) M)
      (stepSum (iblk m c 0 t) (iblk m c 3 t) (iblk m c 4 t) M L)
      (stepAcc (iblk m c 0 t) (iblk m c 3 t) (iblk m c 4 t) (iblk m c 5 t) (iblk m c 6 t) M A)
      (rowOf t) (2048 * (t.val % 8) + 2048) := fun k g => by
  obtain ⟨hM, hL, hA⟩ := h k g
  have e : maxOf (blkScore (iblk m c 0 t) (iblk m c 3 t) (iblk m c 4 t) k g) (M (ix3 k g 0))
      = top (sc m c (rowOf t) k g) (2048 * (t.val % 8) + 2048) := by
    rw [blkScore_eq, hM, top_add]
    rfl
  refine ⟨e, ?_, fun d => ?_⟩
  · show sumOf (blkScore (iblk m c 0 t) (iblk m c 3 t) (iblk m c 4 t) k g) (M (ix3 k g 0)) (L (ix3 k g 0)) = _
    unfold sumOf
    rw [e, hL, hM, blkScore_eq]
    exact step_tot _ _ _
  · show accOf (blkScore (iblk m c 0 t) (iblk m c 3 t) (iblk m c 4 t) k g) (blkValue (iblk m c 5 t) (iblk m c 6 t) k d)
      (M (ix3 k g 0)) (A (ix3 k g d)) = _
    unfold accOf
    rw [e, hA, hM, blkScore_eq, blkValue_eq]
    exact step_wgt _ _ _ _

/-- The carried state. -/
abbrev St : Type := Vec Ideal S1x2x8x128 .bf16 × Vec Ideal S1x2x128 .i8 × Vec Ideal S1x2x1 .f32 × Vec Ideal S1x2x128 .i8
  × Vec Ideal S1x2x1 .f32 × Vec Ideal S2x8x1 .f32 × Vec Ideal S2x8x1 .f32 × Vec Ideal S2x8x128 .f32

/-- One step, whichever its control path: what the scratch holds is extended by the step's tokens. -/
theorem held_st (c : Dev nD) (t : Fin cfg0.N) (acc : St)
    (h : ¬t.val % 8 = 0 → Held m c acc.2.2.2.2.2.1 acc.2.2.2.2.2.2.1 acc.2.2.2.2.2.2.2 (rowOf t) (2048 * (t.val % 8))) :
    Held m c (stAt0 m c t.val t.isLt acc).2.2.2.2.2.1 (stAt0 m c t.val t.isLt acc).2.2.2.2.2.2.1
      (stAt0 m c t.val t.isLt acc).2.2.2.2.2.2.2 (rowOf t) (2048 * (t.val % 8) + 2048) := by
  by_cases h0 : t.val % 8 = 0
  · have h1 : ¬t.val % 8 = 7 := by omega
    have hz := held_zero m c (rowOf t)
    rw [show (0 : ℕ) = 2048 * (t.val % 8) by omega] at hz
    have hs := held_step m c t _ _ _ hz
    rw [stAt0_A m c t acc h0 h1]
    dsimp only
    rw [Block.sout0_A_0, Block.sout0_A_1, Block.sout0_A_2]
    exact hs
  · by_cases h1 : t.val % 8 = 7
    · have hs := held_step m c t _ _ _ (h h0)
      rw [stAt0_C m c t acc h0 h1]
      dsimp only
      rw [Block.sout0_C_0, Block.sout0_C_1, Block.sout0_C_2]
      exact hs
    · have hs := held_step m c t _ _ _ (h h0)
      rw [stAt0_B m c t acc h0 h1]
      dsimp only
      rw [Block.sout0_B_0, Block.sout0_B_1, Block.sout0_B_2]
      exact hs

end Cert.Fold

end
-- ==== Proof.KernelValue.lean ====
/- The kernel's five results, element by element. -/
module

public import proofs.«01_k».proof.Proof.Fold

@[expose] public section

noncomputable section

namespace Cert.KernelValue

open Idealize.ShloMosaic Cert.KernelIdeal Cert.KernelIdeal.Gen Cert.KernelIdeal.Value Cert.Quant Cert.Step Cert.Window
  Cert.Softmax Cert.Fold Idealize.ShloMosaic.TcCoe Idealize.SL.Sem Idealize.ShloMosaic.Tactic

variable (m : (ℓ : Loc nD τ sig) → Buf (Elt Ideal) ℓ)

/-- After every step, the scratch holds the maxima, sums and weighted sums over the tokens of the row seen so far. -/
theorem held (c : Dev nD) : ∀ (n : ℕ) (hn : n < cfg0.N),
    Held m c (outsAt0 m c n hn).2.2.2.2.2.1 (outsAt0 m c n hn).2.2.2.2.2.2.1 (outsAt0 m c n hn).2.2.2.2.2.2.2
      (rowOf ⟨n, hn⟩) (2048 * (n % 8) + 2048)
  | 0, hn => by
    rw [outsAt0_zero]
    exact held_st m c ⟨0, hn⟩ _ (fun h => absurd rfl h)
  | n + 1, hn => by
    rw [outsAt0_succ]
    refine held_st m c ⟨n + 1, hn⟩ _ (fun h => ?_)
    have ih := held c n (Nat.lt_of_succ_lt hn)
    have h' : ¬(n + 1) % 8 = 0 := h
    have e1 : rowOf ⟨n, Nat.lt_of_succ_lt hn⟩ = rowOf ⟨n + 1, hn⟩ := Fin.ext (by show n / 8 = (n + 1) / 8; omega)
    have e2 : 2048 * (n % 8) + 2048 = 2048 * ((n + 1) % 8) := by omega
    rw [e1, e2] at ih
    exact ih

/-- The last step of batch row `b`. -/
abbrev lastOf (b : Fin 128) : Fin cfg0.N :=
  ⟨8 * b.val + 7, lt_of_lt_of_eq (by omega) (show cfg0.N = 1024 from N_0).symm⟩

theorem rowOf_last (b : Fin 128) : rowOf (lastOf b) = b := Fin.ext (by show (8 * b.val + 7) / 8 = b.val; omega)

theorem last_ne (b : Fin 128) : ¬(lastOf b).val % 8 = 0 := by show ¬(8 * b.val + 7) % 8 = 0; omega

theorem last_eq (b : Fin 128) : (lastOf b).val % 8 = 7 := by show (8 * b.val + 7) % 8 = 7; omega

/-- What the last step of a row finds in the scratch. -/
theorem outs_last (c : Dev nD) (b : Fin 128) : ∃ acc : St,
    outsAt0 m c (lastOf b).val (lastOf b).isLt = stAt0 m c (lastOf b).val (lastOf b).isLt acc
    ∧ Held m c acc.2.2.2.2.2.1 acc.2.2.2.2.2.2.1 acc.2.2.2.2.2.2.2 b (2048 * 7) := by
  refine ⟨outsAt0 m c (8 * b.val + 6) (Nat.lt_of_succ_lt (lastOf b).isLt), outsAt0_succ m c (8 * b.val + 6) (lastOf b).isLt, ?_⟩
  have h := held m c (8 * b.val + 6) (Nat.lt_of_succ_lt (lastOf b).isLt)
  have e1 : rowOf ⟨8 * b.val + 6, Nat.lt_of_succ_lt (lastOf b).isLt⟩ = b :=
    Fin.ext (by show (8 * b.val + 6) / 8 = b.val; omega)
  have e2 : 2048 * ((8 * b.val + 6) % 8) + 2048 = 2048 * 7 := by omega
  rw [e1, e2] at h
  exact h

/-- `finish` of equal arguments. -/
theorem finish_congr {a a' l l' w w' s s' v v' : EReal} (ha : a = a') (hl : l = l') (hw : w = w') (hs : s = s')
    (hv : v = v') : finish a l w s v = finish a' l' w' s' v' := by
  rw [ha, hl, hw, hs, hv]

/-- The output of a row's last step: the softmax over the whole cache and the new token. -/
theorem out_last (c : Dev nD) (b : Fin 128) (k : Fin 2) (g : Fin 8) (d : Fin 128) :
    (outsAt0 m c (lastOf b).val (lastOf b).isLt).1 (ix4 0 k g d)
      = finish (top (sc m c b k g) 16384) (tot (sc m c b k g) 16384 (top (sc m c b k g) 16384))
          (wgt (sc m c b k g) (vl m c b k d) 16384 (top (sc m c b k g) 16384))
          (score (fun d => qArg m c (ix3 b 0 (qPos k g d))) (requant fun d => knArg m c (ix4 b 0 k d)))
          (requant (fun d => vnArg m c (ix4 b 0 k d)) d) := by
  obtain ⟨acc, e, h⟩ := outs_last m c b
  have hr := rowOf_last b
  rw [e, stAt0_C m c (lastOf b) acc (last_ne b) (last_eq b)]
  dsimp only
  rw [Block.out0_C_7]
  have h7 : Held m c acc.2.2.2.2.2.1 acc.2.2.2.2.2.2.1 acc.2.2.2.2.2.2.2 (rowOf (lastOf b)) (2048 * ((lastOf b).val % 8)) := by
    rw [hr, last_eq b]; exact h
  obtain ⟨hM, hL, hA⟩ := held_step m c (lastOf b) _ _ _ h7 k g
  rw [hr, last_eq b] at hM hL
  have hA := hA d
  rw [hr, last_eq b] at hA
  have eq : (fun d => iblk m c 0 (lastOf b) (ix4 0 k g d)) = fun d => qArg m c (ix3 b 0 (qPos k g d)) := by
    funext d; rw [blk0, hr]
  have ek : (fun d => iblk m c 1 (lastOf b) (ix3 0 k d)) = fun d => knArg m c (ix4 b 0 k d) := by
    funext d; rw [blk1, hr]
  have ev : (fun d => iblk m c 2 (lastOf b) (ix3 0 k d)) = fun d => vnArg m c (ix4 b 0 k d) := by
    funext d; rw [blk2, hr]
  refine finish_congr hM hL hA ?_ ?_
  · show score (fun d => iblk m c 0 (lastOf b) (ix4 0 k g d)) (requant fun d => iblk m c 1 (lastOf b) (ix3 0 k d)) = _
    rw [eq, ek]
  · show requant (fun d => iblk m c 2 (lastOf b) (ix3 0 k d)) d = _
    rw [ev]

/-- Taking an output's block at the last step of row `b`. -/
theorem accAt_last (c : Dev nD) (b : Fin 128) (n : ℕ) (hn : n = 8 * b.val + 7) (hlt : n < cfg0.N) (hle) :
    Pipeline.accAt (fun n h => stAt0 m c n h junk0) (stAt0 m c) 0 n hle
      = outsAt0 m c (lastOf b).val (lastOf b).isLt := by
  subst hn
  exact (outsAt0_sweep m c _ hlt).symm

/-- The kernel's first result: the attention output. -/
theorem G7_eq (c : Dev nD) (b : Fin 128) (k : Fin 2) (g : Fin 8) (d : Fin 128) :
    G7 m c (ix4 b k g d)
      = finish (top (sc m c b k g) 16384) (tot (sc m c b k g) 16384 (top (sc m c b k g) 16384))
          (wgt (sc m c b k g) (vl m c b k d) 16384 (top (sc m c b k g) 16384))
          (score (fun d => qArg m c (ix3 b 0 (qPos k g d))) (requant fun d => knArg m c (ix4 b 0 k d)))
          (requant (fun d => vnArg m c (ix4 b 0 k d)) d) := by
  have hp : pt7Of (ix4 b k g d) = 8 * b.val + 7 := by
    show 8 * (1 * (b.val / 1 - 0) + 1 * (k.val / 2 - 0) + 1 * (g.val / 8 - 0) + 1 * (d.val / 128 - 0)) + 7 = _
    omega
  have hlt : pt7Of (ix4 b k g d) < cfg0.N := hp ▸ (lastOf b).isLt
  have hl : loc7Of (ix4 b k g d) = ix4 0 k g d := by
    funext a
    fin_cases a <;> apply Fin.ext
    · exact Nat.mod_one _
    · exact Nat.mod_eq_of_lt k.isLt
    · exact Nat.mod_eq_of_lt g.isLt
    · exact Nat.mod_eq_of_lt d.isLt
  unfold G7
  rw [dif_pos hlt, accAt_last m c b _ hp hlt, hl]
  exact out_last m c b k g d

/-- The kernel's second result: the new key's codes. -/
theorem G8_eq (c : Dev nD) (b : Fin 128) (k : Fin 2) (d : Fin 128) :
    G8 m c (ix3 b k d) = qcode (fun d => knArg m c (ix4 b 0 k d)) d := by
  have hp : pt8Of (ix3 b k d) = 8 * b.val + 7 := by
    show 8 * (1 * (b.val / 1 - 0) + 1 * (k.val / 2 - 0) + 1 * (d.val / 128 - 0)) + 7 = _
    omega
  have hlt : pt8Of (ix3 b k d) < cfg0.N := hp ▸ (lastOf b).isLt
  have hl : loc8Of (ix3 b k d) = ix3 0 k d := by
    funext a
    fin_cases a <;> apply Fin.ext
    · exact Nat.mod_one _
    · exact Nat.mod_eq_of_lt k.isLt
    · exact Nat.mod_eq_of_lt d.isLt
  obtain ⟨acc, e, -⟩ := outs_last m c b
  unfold G8
  rw [dif_pos hlt, accAt_last m c b _ hp hlt, hl, e, stAt0_C m c (lastOf b) acc (last_ne b) (last_eq b)]
  dsimp only
  rw [Block.out0_C_8]
  show qcode (fun d => iblk m c 1 (lastOf b) (ix3 0 k d)) d = _
  simp only [blk1, rowOf_last]

/-- The kernel's third result: the new key's scales. -/
theorem G9_eq (c : Dev nD) (b : Fin 128) (k : Fin 2) :
    G9 m c (ix3 b k 0) = qscale fun d => knArg m c (ix4 b 0 k d) := by
  have hp : pt9Of (ix3 b k 0) = 8 * b.val + 7 := by
    show 8 * (1 * (b.val / 1 - 0) + 1 * (k.val / 2 - 0) + 1 * (0 / 1 - 0)) + 7 = _
    omega
  have hlt : pt9Of (ix3 b k 0) < cfg0.N := hp ▸ (lastOf b).isLt
  have hl : loc9Of (ix3 b k 0) = ix3 0 k 0 := by
    funext a
    fin_cases a <;> apply Fin.ext
    · exact Nat.mod_one _
    · exact Nat.mod_eq_of_lt k.isLt
    · rfl
  obtain ⟨acc, e, -⟩ := outs_last m c b
  unfold G9
  rw [dif_pos hlt, accAt_last m c b _ hp hlt, hl, e, stAt0_C m c (lastOf b) acc (last_ne b) (last_eq b)]
  dsimp only
  rw [Block.out0_C_9]
  show (qscale fun d => iblk m c 1 (lastOf b) (ix3 0 k d)) = _
  simp only [blk1, rowOf_last]

/-- The kernel's fourth result: the new value's codes. -/
theorem G10_eq (c : Dev nD) (b : Fin 128) (k : Fin 2) (d : Fin 128) :
    G10 m c (ix3 b k d) = qcode (fun d => vnArg m c (ix4 b 0 k d)) d := by
  have hp : pt10Of (ix3 b k d) = 8 * b.val + 7 := by
    show 8 * (1 * (b.val / 1 - 0) + 1 * (k.val / 2 - 0) + 1 * (d.val / 128 - 0)) + 7 = _
    omega
  have hlt : pt10Of (ix3 b k d) < cfg0.N := hp ▸ (lastOf b).isLt
  have hl : loc10Of (ix3 b k d) = ix3 0 k d := by
    funext a
    fin_cases a <;> apply Fin.ext
    · exact Nat.mod_one _
    · exact Nat.mod_eq_of_lt k.isLt
    · exact Nat.mod_eq_of_lt d.isLt
  obtain ⟨acc, e, -⟩ := outs_last m c b
  unfold G10
  rw [dif_pos hlt, accAt_last m c b _ hp hlt, hl, e, stAt0_C m c (lastOf b) acc (last_ne b) (last_eq b)]
  dsimp only
  rw [Block.out0_C_10]
  show qcode (fun d => iblk m c 2 (lastOf b) (ix3 0 k d)) d = _
  simp only [blk2, rowOf_last]

/-- The kernel's fifth result: the new value's scales. -/
theorem G11_eq (c : Dev nD) (b : Fin 128) (k : Fin 2) :
    G11 m c (ix3 b k 0) = qscale fun d => vnArg m c (ix4 b 0 k d) := by
  have hp : pt11Of (ix3 b k 0) = 8 * b.val + 7 := by
    show 8 * (1 * (b.val / 1 - 0) + 1 * (k.val / 2 - 0) + 1 * (0 / 1 - 0)) + 7 = _
    omega
  have hlt : pt11Of (ix3 b k 0) < cfg0.N := hp ▸ (lastOf b).isLt
  have hl : loc11Of (ix3 b k 0) = ix3 0 k 0 := by
    funext a
    fin_cases a <;> apply Fin.ext
    · exact Nat.mod_one _
    · exact Nat.mod_eq_of_lt k.isLt
    · rfl
  obtain ⟨acc, e, -⟩ := outs_last m c b
  unfold G11
  rw [dif_pos hlt, accAt_last m c b _ hp hlt, hl, e, stAt0_C m c (lastOf b) acc (last_ne b) (last_eq b)]
  dsimp only
  rw [Block.out0_C_11]
  show (qscale fun d => iblk m c 2 (lastOf b) (ix3 0 k d)) = _
  simp only [blk2, rowOf_last]

end Cert.KernelValue

end
-- ==== Proof.RefQuant.lean ====
/- The reference's arguments and its quantiser, element by element. -/
module

public import proofs.«01_k».proof.Proof.Gen.ReferenceIdeal.Read
public import proofs.«01_k».proof.Proof.Quant

@[expose] public section

noncomputable section

namespace Cert.RefValue

open Idealize.ShloMosaic Cert.ReferenceIdeal Cert.ReferenceIdeal.Gen Cert.ReferenceIdeal.Read Cert.Quant
  Idealize.ShloMosaic.TcCoe Idealize.SL.Sem

/-- A query's place in the flat query row: kv head `k`, query head `g`, column `d`. -/
abbrev qAt (k : Fin 2) (g : Fin 8) (d : Fin 128) : Fin 2048 := ⟨(k.val * 8 + g.val) * 128 + d.val, by omega⟩

/-- The queries, split by head. -/
theorem query (x0 : (⟨S128x1x2048, .bf16⟩ : BufTy).Contents (Elt Ideal)) (b : Fin 128) (k : Fin 2) (g : Fin 8) (d : Fin 128) :
    val_main_v0 (F := Ideal) x0 (ix4 b k g d) = x0 (ix3 b 0 (qAt k g d)) := by
  rw [val_main_v0_apply]
  congr 1
  funext a
  fin_cases a <;> apply Fin.ext
  · show (((b.val * 2 + k.val) * 8 + g.val) * 128 + d.val) / 2048 = b.val
    omega
  · rfl
  · show (((b.val * 2 + k.val) * 8 + g.val) * 128 + d.val) % 2048 = (k.val * 8 + g.val) * 128 + d.val
    omega

/-- The new rows, without the length-one axis. -/
theorem row (x1 : (⟨S128x1x2x128, .bf16⟩ : BufTy).Contents (Elt Ideal)) (b : Fin 128) (k : Fin 2) (d : Fin 128) :
    val_main_v1 (F := Ideal) x1 (ix3 b k d) = x1 (ix4 b 0 k d) := by
  rw [val_main_v1_apply]
  congr 1
  funext a
  fin_cases a <;> apply Fin.ext
  · show ((b.val * 2 + k.val) * 128 + d.val) / 256 = b.val
    omega
  · rfl
  · show ((b.val * 2 + k.val) * 128 + d.val) / 128 % 2 = k.val
    omega
  · show ((b.val * 2 + k.val) * 128 + d.val) % 128 = d.val
    omega

/-- The largest magnitude of each new row. -/
theorem amax_eq (x1 : (⟨S128x1x2x128, .bf16⟩ : BufTy).Contents (Elt Ideal)) (b : Fin 128) (k : Fin 2) :
    val_main_v4 (F := Ideal) x1 (ix2 b k) = amax fun d => x1 (ix4 b 0 k d) := by
  have h : ∀ d : Fin 128, val_main_v3 (F := Ideal) x1 (ix3 b k d) = max (x1 (ix4 b 0 k d)) (-(x1 (ix4 b 0 k d))) := fun d => by
    rw [val_main_v3_apply, val_main_v2_apply, row]
    rfl
  unfold val_main_v4
  generalize val_main_v3 (F := Ideal) x1 = y at h
  unfold val_main_cst
  pointwise [ofBits_neg_inf, fold_max_bot]
  simp only [h]
  rfl

/-- The scale of each new row. -/
theorem scale_eq (x1 : (⟨S128x1x2x128, .bf16⟩ : BufTy).Contents (Elt Ideal)) (b : Fin 128) (k : Fin 2) :
    val_main_v9 (F := Ideal) x1 (ix2 b k) = qscale fun d => x1 (ix4 b 0 k d) := by
  have h := amax_eq x1 b k
  unfold val_main_v9 val_main_v6 val_main_v8
  generalize val_main_v4 (F := Ideal) x1 = y at h
  unfold val_main_v5 val_main_v7 val_main_call0_v1 val_main_call0_v0 val_main_cst_0 val_main_cst_1 val_main_cst_2
  simp only [id_eq]
  pointwise [ofBits_127]
  rw [h]
  rfl

/-- The codes of each new row. -/
theorem code_eq (x1 : (⟨S128x1x2x128, .bf16⟩ : BufTy).Contents (Elt Ideal)) (b : Fin 128) (k : Fin 2) (d : Fin 128) :
    val_main_v16 (F := Ideal) x1 (ix3 b k d) = qcode (fun d => x1 (ix4 b 0 k d)) d := by
  have h := scale_eq x1 b k
  have h' := row x1 b k d
  unfold val_main_v16 val_main_v15 val_main_v14 val_main_call2_v2 val_main_v13 val_main_v12 val_main_v11 val_main_v10 val_main_v2
  generalize val_main_v9 (F := Ideal) x1 = y at h
  generalize val_main_v1 (F := Ideal) x1 = z at h'
  unfold val_main_call2_v4 val_main_call2_v3 val_main_call2_v1 val_main_call2_v0 val_main_cst_3 val_main_cst_4
  simp only [id_eq]
  pointwise [fptosi_def, ofBits_127, ofBits_neg_127]
  rw [h, h']
  exact trunc_fptosi _

/-- A code widened to 32 bits and read as a float is the code. -/
theorem wide (c : BitVec 8) : (((c.signExtend 32).toInt : ℝ) : EReal) = ((c.toInt : ℝ) : EReal) := by
  rw [BitVec.toInt_signExtend_of_le (by decide)]

/-- The new key, quantised and read back. -/
theorem back_eq (x1 : (⟨S128x1x2x128, .bf16⟩ : BufTy).Contents (Elt Ideal)) (b : Fin 128) (k : Fin 2) (d : Fin 128) :
    val_main_v53 (F := Ideal) x1 (ix3 b k d) = requant (fun d => x1 (ix4 b 0 k d)) d := by
  have h := scale_eq x1 b k
  have h' := code_eq x1 b k d
  unfold val_main_v53 val_main_v49 val_main_v48 val_main_v47 val_main_v52 val_main_v51 val_main_v50
  generalize val_main_v9 (F := Ideal) x1 = y at h
  generalize val_main_v16 (F := Ideal) x1 = z at h'
  pointwise [sitofp_def]
  rw [h, h']
  show (((((qcode (fun d => x1 (ix4 b 0 k d)) d).signExtend 32).toInt : ℝ) : EReal)) * _ = _
  rw [wide]
  rfl

/-- The cached keys, read back. -/
theorem cached (x3 : (⟨S128x16384x2x128, .i8⟩ : BufTy).Contents (Elt Ideal)) (x4 : (⟨S128x16384x2, .f32⟩ : BufTy).Contents (Elt Ideal))
    (b : Fin 128) (t : Fin 16384) (k : Fin 2) (d : Fin 128) :
    val_main_v39 (F := Ideal) x3 x4 (ix4 b t k d) = deq (x3 (ix4 b t k d)) (x4 (ix3 b t k)) := by
  unfold val_main_v39 val_main_v35 val_main_v34 val_main_v33 val_main_v38 val_main_v37 val_main_v36
  pointwise [sitofp_def]
  show (((((x3 (ix4 b t k d)).signExtend 32).toInt : ℝ) : EReal)) * _ = _
  rw [wide]
  rfl

end Cert.RefValue

end
-- ==== Proof.RefValue.lean ====
/- The reference's attention output, element by element: the softmax over the cache and the new token. -/
module

public import proofs.«01_k».proof.Proof.RefQuant
public import proofs.«01_k».proof.Proof.Softmax

@[expose] public section

noncomputable section

namespace Cert.RefValue

open Idealize.ShloMosaic Cert.ReferenceIdeal Cert.ReferenceIdeal.Gen Cert.ReferenceIdeal.Read Cert.Quant Cert.Softmax
  Idealize.ShloMosaic.TcCoe Idealize.SL.Sem

/-! The types of the arguments: queries, new rows, cached codes, cached scales. -/

abbrev QTy : Type := (⟨S128x1x2048, .bf16⟩ : BufTy).Contents (Elt Ideal)
abbrev NTy : Type := (⟨S128x1x2x128, .bf16⟩ : BufTy).Contents (Elt Ideal)
abbrev CTy : Type := (⟨S128x16384x2x128, .i8⟩ : BufTy).Contents (Elt Ideal)
abbrev STy : Type := (⟨S128x16384x2, .f32⟩ : BufTy).Contents (Elt Ideal)

/-- A cached token's score. -/
def sAt (x0 : QTy) (x3 : CTy) (x4 : STy) (b : Fin 128) (k : Fin 2) (g : Fin 8) (t : Fin 16384) : EReal :=
  score (fun d => x0 (ix3 b 0 (qAt k g d))) fun d => deq (x3 (ix4 b t k d)) (x4 (ix3 b t k))

/-- The new token's score. -/
def sNew (x0 : QTy) (x1 : NTy) (b : Fin 128) (k : Fin 2) (g : Fin 8) : EReal :=
  score (fun d => x0 (ix3 b 0 (qAt k g d))) (requant fun d => x1 (ix4 b 0 k d))

/-- The largest score of a query. -/
def peak (x0 : QTy) (x1 : NTy) (x3 : CTy) (x4 : STy) (b : Fin 128) (k : Fin 2) (g : Fin 8) : EReal :=
  max ((Finset.univ : Finset (Fin 16384)).sup (sAt x0 x3 x4 b k g)) (sNew x0 x1 b k g)

/-- The scores of the cached tokens. -/
theorem scores_eq (x0 : QTy) (x3 : CTy) (x4 : STy) (b : Fin 128) (k : Fin 2) (g : Fin 8) (t : Fin 16384) :
    val_main_v63 (F := Ideal) x0 x3 x4 (ix4 b k g t) = sAt x0 x3 x4 b k g t := by
  have el : ∀ d : Fin 128, lidx_main_v61 (ix4 b k g t) d = ix4 b k g d := fun d => by
    funext a; fin_cases a <;> rfl
  have er : ∀ d : Fin 128, ridx_main_v61 (ix4 b k g t) d = ix4 b t k d := fun d => by
    funext a; fin_cases a <;> rfl
  rw [val_main_v63_apply, val_main_v61_apply, val_main_v62_apply]
  simp only [el, er, query, cached]
  rfl

/-- The score of the new token. -/
theorem newScore_eq (x0 : QTy) (x1 : NTy) (b : Fin 128) (k : Fin 2) (g : Fin 8) :
    val_main_v66 (F := Ideal) x0 x1 (ix3 b k g) = sNew x0 x1 b k g := by
  have el : ∀ d : Fin 128, lidx_main_v64 (ix3 b k g) d = ix4 b k g d := fun d => by
    funext a; fin_cases a <;> rfl
  have er : ∀ d : Fin 128, ridx_main_v64 (ix3 b k g) d = ix3 b k d := fun d => by
    funext a; fin_cases a <;> rfl
  rw [val_main_v66_apply, val_main_v64_apply, val_main_v65_apply]
  simp only [el, er, query, back_eq]
  rfl

/-- A maximum along the last of four axes, from `⊥`, is the supremum along it. -/
theorem reduceMax {n0 n1 n2 n3 : Nat} (y : (⟨4, ![n0, n1, n2, n3]⟩ : Shape).Idx → EReal) {u : Shape} (init : u.Idx → EReal)
    (hi : ∀ i, init i = ⊥) (h : (⟨4, ![n0, n1, n2, n3]⟩ : Shape).ReducesTo [3] ⟨3, ![n0, n1, n2]⟩) (hu : 0 < u.numel)
    (a : Fin n0) (b : Fin n1) (c : Fin n2) :
    Host.reduce (FloatOps.maximumf (F := Ideal) (φ := .f32)) y init h hu (ix3 a b c)
      = (Finset.univ : Finset (Fin n3)).sup fun t => y (ix4 a b c t) := by
  rw [Host.reduce_eq_fold, Shape.ReducesTo.fold_fiber_r4_a3, hi]
  rfl

/-- The largest score. -/
theorem peak_eq (x0 : QTy) (x1 : NTy) (x3 : CTy) (x4 : STy) (b : Fin 128) (k : Fin 2) (g : Fin 8) :
    val_main_v68 (F := Ideal) x0 x1 x3 x4 (ix3 b k g) = peak x0 x1 x3 x4 b k g := by
  have h := scores_eq x0 x3 x4 b k g
  have h' : val_main_v67 (F := Ideal) x0 x3 x4 (ix3 b k g)
      = (Finset.univ : Finset (Fin 16384)).sup fun t => val_main_v63 (F := Ideal) x0 x3 x4 (ix4 b k g t) :=
    reduceMax _ _ (fun _ => ofBits_neg_inf) _ _ b k g
  rw [val_main_v68_apply, h', newScore_eq]
  simp only [h]
  rfl

/-- A cached token's weight. -/
theorem weight_eq (x0 : QTy) (x1 : NTy) (x3 : CTy) (x4 : STy) (b : Fin 128) (k : Fin 2) (g : Fin 8) (t : Fin 16384) :
    val_main_v72 (F := Ideal) x0 x1 x3 x4 (ix4 b k g t)
      = Ideal.exp (sAt x0 x3 x4 b k g t - peak x0 x1 x3 x4 b k g) := by
  have h := scores_eq x0 x3 x4 b k g t
  have h' := peak_eq x0 x1 x3 x4 b k g
  unfold val_main_v72 val_main_v71 val_main_v70 val_main_v69
  generalize val_main_v68 (F := Ideal) x0 x1 x3 x4 = y at h'
  generalize val_main_v63 (F := Ideal) x0 x3 x4 = z at h
  pointwise []
  rw [h, h']

/-- The new token's weight. -/
theorem newWeight_eq (x0 : QTy) (x1 : NTy) (x3 : CTy) (x4 : STy) (b : Fin 128) (k : Fin 2) (g : Fin 8) :
    val_main_v74 (F := Ideal) x0 x1 x3 x4 (ix3 b k g)
      = Ideal.exp (sNew x0 x1 b k g - peak x0 x1 x3 x4 b k g) := by
  have h := newScore_eq x0 x1 b k g
  have h' := peak_eq x0 x1 x3 x4 b k g
  unfold val_main_v74 val_main_v73
  generalize val_main_v68 (F := Ideal) x0 x1 x3 x4 = y at h'
  generalize val_main_v66 (F := Ideal) x0 x1 = z at h
  pointwise []
  rw [h, h']

/-- The sum of all the weights. -/
theorem total_eq (x0 : QTy) (x1 : NTy) (x3 : CTy) (x4 : STy) (b : Fin 128) (k : Fin 2) (g : Fin 8) :
    val_main_v76 (F := Ideal) x0 x1 x3 x4 (ix3 b k g)
      = (∑ t : Fin 16384, Ideal.exp (sAt x0 x3 x4 b k g t - peak x0 x1 x3 x4 b k g))
        + Ideal.exp (sNew x0 x1 b k g - peak x0 x1 x3 x4 b k g) := by
  have e : ∀ t : Fin 16384, idx_main_v75 (ix3 b k g) t = ix4 b k g t := fun t => by
    funext a; fin_cases a <;> rfl
  rw [val_main_v76_apply, val_main_v75_apply, newWeight_eq]
  simp only [e, weight_eq]
  have z : val_main_cst_14 (F := Ideal) (Shape.Idx.first h_S_) = 0 := by
    rw [val_main_cst_14_apply]
    exact Ideal.ofBits_zero _
  rw [z, zero_add]
  rfl

/-- The weighted sum of the cached values. -/
theorem weighted_eq (x0 : QTy) (x1 : NTy) (x3 : CTy) (x4 : STy) (x5 : CTy) (x6 : STy) (b : Fin 128) (k : Fin 2) (g : Fin 8)
    (d : Fin 128) :
    val_main_v78 (F := Ideal) x0 x1 x3 x4 x5 x6 (ix4 b k g d)
      = ∑ t : Fin 16384, Ideal.exp (sAt x0 x3 x4 b k g t - peak x0 x1 x3 x4 b k g)
          * deq (x5 (ix4 b t k d)) (x6 (ix3 b t k)) := by
  have el : ∀ t : Fin 16384, lidx_main_v78 (ix4 b k g d) t = ix4 b k g t := fun t => by
    funext a; fin_cases a <;> rfl
  have er : ∀ t : Fin 16384, ridx_main_v78 (ix4 b k g d) t = ix4 b t k d := fun t => by
    funext a; fin_cases a <;> rfl
  have ev : ∀ t : Fin 16384, val_main_v77 (F := Ideal) x5 x6 (ix4 b t k d) = deq (x5 (ix4 b t k d)) (x6 (ix3 b t k)) :=
    fun t => cached x5 x6 b t k d
  rw [val_main_v78_apply]
  simp only [el, er, weight_eq, ev]

/-- The attention output. -/
theorem out_eq (x0 : QTy) (x1 x2 : NTy) (x3 : CTy) (x4 : STy) (x5 : CTy) (x6 : STy) (b : Fin 128) (k : Fin 2) (g : Fin 8)
    (d : Fin 128) :
    val_main_v89 (F := Ideal) x0 x1 x2 x3 x4 x5 x6 (ix4 b k g d)
      = Ideal.div
          ((∑ t : Fin 16384, Ideal.exp (sAt x0 x3 x4 b k g t - peak x0 x1 x3 x4 b k g)
              * deq (x5 (ix4 b t k d)) (x6 (ix3 b t k)))
            + Ideal.exp (sNew x0 x1 b k g - peak x0 x1 x3 x4 b k g) * requant (fun d => x2 (ix4 b 0 k d)) d)
          ((∑ t : Fin 16384, Ideal.exp (sAt x0 x3 x4 b k g t - peak x0 x1 x3 x4 b k g))
            + Ideal.exp (sNew x0 x1 b k g - peak x0 x1 x3 x4 b k g)) := by
  have h1 := weighted_eq x0 x1 x3 x4 x5 x6 b k g d
  have h2 := total_eq x0 x1 x3 x4 b k g
  have h3 := newWeight_eq x0 x1 x3 x4 b k g
  have h4 : val_main_v60 (F := Ideal) x2 (ix3 b k d) = requant (fun d => x2 (ix4 b 0 k d)) d := back_eq x2 b k d
  unfold val_main_v89 val_main_v88 val_main_v87 val_main_v86 val_main_v85 val_main_v84 val_main_v83 val_main_v82
    val_main_v81 val_main_v80 val_main_v79
  generalize val_main_v78 (F := Ideal) x0 x1 x3 x4 x5 x6 = y1 at h1
  generalize val_main_v76 (F := Ideal) x0 x1 x3 x4 = y2 at h2
  generalize val_main_v74 (F := Ideal) x0 x1 x3 x4 = y3 at h3
  generalize val_main_v60 (F := Ideal) x2 = y4 at h4
  pointwise []
  rw [h1, h2, h3, h4]

/-- The reference's quotient is the kernel's: a prefix's maximum, sum and weighted sum, with the new token last. -/
theorem finish_eq (s v : ℕ → EReal) (n : ℕ) (a w : EReal) :
    finish (top s n) (tot s n (top s n)) (wgt s v n (top s n)) a w
      = Ideal.div
          ((∑ t : Fin n, Ideal.exp (s t - max ((Finset.univ : Finset (Fin n)).sup fun t => s t) a) * v t)
            + Ideal.exp (a - max ((Finset.univ : Finset (Fin n)).sup fun t => s t) a) * w)
          ((∑ t : Fin n, Ideal.exp (s t - max ((Finset.univ : Finset (Fin n)).sup fun t => s t) a))
            + Ideal.exp (a - max ((Finset.univ : Finset (Fin n)).sup fun t => s t) a)) := by
  have e : ((Finset.univ : Finset (Fin n)).sup fun t => s t) = top s n := by
    have h := top_add s 0 n
    simp only [Nat.zero_add, top_zero, bot_le, max_eq_right] at h
    exact h.symm
  rw [e]
  unfold finish
  rw [rescale_tot s n (le_max_left _ _), rescale_wgt s v n (le_max_left _ _), tot, wgt, Finset.sum_range, Finset.sum_range]

end Cert.RefValue

end
-- ==== Proof.Equation.lean ====
/- The equation: at equal arguments, the kernel's five result arrays are the reference's. -/
module

public import proofs.«01_k».proof.Proof.KernelValue
public import proofs.«01_k».proof.Proof.RefValue

@[expose] public section

noncomputable section

namespace Cert.Equation

open Idealize.ShloMosaic Idealize.SL.Sem Idealize.ShloMosaic.TcCoe Cert.Quant Cert.Softmax Cert.Fold Cert.Window
  Cert.KernelIdeal.Value Cert.ReferenceIdeal.Read

variable (m : (ℓ : Loc Cert.KernelIdeal.nD Cert.KernelIdeal.τ Cert.KernelIdeal.sig) → Buf (Elt Ideal) ℓ)

/-- A token number below the cache's length is that token. -/
theorem tok_val (t : Fin 16384) : tok t.val = t := Fin.ext (Nat.mod_eq_of_lt t.isLt)

/-- The attention output. -/
theorem y_eq (c : Dev Cert.KernelIdeal.nD) :
    val_main_v89 (F := Ideal) (qArg m c) (knArg m c) (vnArg m c) (kcArg m c) (ksArg m c) (vcArg m c) (vsArg m c) = G7 m c := by
  funext i
  obtain ⟨b, k, g, d, rfl⟩ : ∃ b k g d, i = ix4 b k g d := ⟨i 0, i 1, i 2, i 3, by funext a; fin_cases a <;> rfl⟩
  have es : (fun t : Fin 16384 => sc m c b k g t.val) = RefValue.sAt (qArg m c) (kcArg m c) (ksArg m c) b k g := by
    funext t
    unfold sc RefValue.sAt
    rw [tok_val]
  have es' : ∀ t : Fin 16384, sc m c b k g t.val = RefValue.sAt (qArg m c) (kcArg m c) (ksArg m c) b k g t := congrFun es
  have ev : ∀ t : Fin 16384, vl m c b k d t.val = deq (vcArg m c (ix4 b t k d)) (vsArg m c (ix3 b t k)) := fun t => by
    unfold vl
    rw [tok_val]
  refine (RefValue.out_eq _ _ _ _ _ _ _ b k g d).trans ?_
  refine Eq.trans ?_ (KernelValue.G7_eq m c b k g d).symm
  rw [RefValue.finish_eq, es]
  simp only [es', ev]
  rfl

/-- The new key's codes. -/
theorem kcode_eq (c : Dev Cert.KernelIdeal.nD) : val_main_v16 (F := Ideal) (knArg m c) = G8 m c := by
  funext i
  obtain ⟨b, k, d, rfl⟩ : ∃ b k d, i = ix3 b k d := ⟨i 0, i 1, i 2, by funext a; fin_cases a <;> rfl⟩
  exact (RefValue.code_eq _ b k d).trans (KernelValue.G8_eq m c b k d).symm

/-- The new value's codes. -/
theorem vcode_eq (c : Dev Cert.KernelIdeal.nD) : val_main_v32 (F := Ideal) (vnArg m c) = G10 m c := by
  funext i
  obtain ⟨b, k, d, rfl⟩ : ∃ b k d, i = ix3 b k d := ⟨i 0, i 1, i 2, by funext a; fin_cases a <;> rfl⟩
  exact (RefValue.code_eq _ b k d).trans (KernelValue.G10_eq m c b k d).symm

/-- An index of the scales: the last coordinate is zero. -/
theorem scale_idx (i : Cert.KernelIdeal.S128x2x1.Idx) : ∃ b k, i = ix3 b k 0 :=
  ⟨i 0, i 1, by
    funext a
    fin_cases a
    · rfl
    · rfl
    · exact Fin.ext (Nat.lt_one_iff.1 (i 2).isLt)⟩

/-- The reference's scales, at an index. -/
theorem ref_scale (x : RefValue.NTy) (b : Fin 128) (k : Fin 2) :
    val_main_v90 (F := Ideal) x (ix3 b k 0) = qscale fun d => x (ix4 b 0 k d) := by
  have e : idx_main_v90 (ix3 b k 0) = ix2 b k := by funext a; fin_cases a <;> rfl
  rw [val_main_v90_apply, e, RefValue.scale_eq]

/-- The new key's scales. -/
theorem kscale_eq (c : Dev Cert.KernelIdeal.nD) : val_main_v90 (F := Ideal) (knArg m c) = G9 m c := by
  funext i
  obtain ⟨b, k, rfl⟩ := scale_idx i
  exact (ref_scale _ b k).trans (KernelValue.G9_eq m c b k).symm

/-- The new value's scales. -/
theorem vscale_eq (c : Dev Cert.KernelIdeal.nD) : val_main_v91 (F := Ideal) (vnArg m c) = G11 m c := by
  funext i
  obtain ⟨b, k, rfl⟩ := scale_idx i
  exact (ref_scale _ b k).trans (KernelValue.G11_eq m c b k).symm

end Cert.Equation

end
-- ==== Proof.lean ====
/- The certificate: both kernels and the reference run and leave their arguments alone, and over the extended reals the
   kernel's five results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments unchanged, and has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- Over the extended reals the kernel and the reference compute the same five results. -/
theorem algebraic : Cert.algebraic_KernelIdeal_ReferenceIdeal (hKernelIdeal := Cert.KernelIdeal.Gen.facts)
    (hReferenceIdeal := Cert.ReferenceIdeal.Gen.facts) := fun m g m' g' _ hm => by
  refine ⟨Cert.KernelIdeal.Value.G7 m, Cert.KernelIdeal.Value.G8 m, Cert.KernelIdeal.Value.G9 m,
    Cert.KernelIdeal.Value.G10 m, Cert.KernelIdeal.Value.G11 m, Cert.KernelIdeal.Value.run m g, ?_⟩
  refine (θ_run Cert.ReferenceIdeal.defs _ _).mono (fun r h c => ?_) (Cert.ReferenceIdeal.Value.run (F := Ideal) m' g')
  obtain ⟨h0, h1, h2, h3, h4, hargs⟩ := h c
  obtain ⟨e0, e1, e2, e3, e4, e5, e6⟩ := hm c
  refine ⟨h0.trans ?_, h1.trans ?_, h2.trans ?_, h3.trans ?_, h4.trans ?_, hargs⟩
  · rw [Cert.ReferenceIdeal.Read.val_main_v89_eq, e0, e1, e2, e3, e4, e5, e6]
    exact Cert.Equation.y_eq m c
  · rw [Cert.ReferenceIdeal.Read.val_main_v16_eq, e1]
    exact Cert.Equation.kcode_eq m c
  · rw [Cert.ReferenceIdeal.Read.val_main_v90_eq, e1]
    exact Cert.Equation.kscale_eq m c
  · rw [Cert.ReferenceIdeal.Read.val_main_v32_eq, e2]
    exact Cert.Equation.vcode_eq m c
  · rw [Cert.ReferenceIdeal.Read.val_main_v91_eq, e2]
    exact Cert.Equation.vscale_eq m c

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
